-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_facets_proper [hPre_facets_proper : Cert.Pre_facets_proper.Facts] (m : (ℓ : Loc Cert.KernelIdeal.nD Cert.KernelIdeal.τ Cert.KernelIdeal.sig) → Buf (Elt Ideal) ℓ) : Prop :=
  ∀ c : Dev Cert.KernelIdeal.nD,
    (Cert.Pre_facets_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_facets_proper [hPre_facets_proper : Cert.Pre_facets_proper.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_facets_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_facets_proper [hKernelIdeal : Cert.KernelIdeal.Facts] [hPre_facets_proper : Cert.Pre_facets_proper.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_facets_proper m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_facets_proper [hReferenceIdeal : Cert.ReferenceIdeal.Facts] [hPre_facets_proper : Cert.Pre_facets_proper.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_facets_proper m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_facets_proper [hKernelIdeal : Cert.KernelIdeal.Facts] [hReferenceIdeal : Cert.ReferenceIdeal.Facts] [hPre_facets_proper : Cert.Pre_facets_proper.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_facets_proper m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_facets_proper : Cert.Pre_facets_proper.Facts),
    quiescent_Kernel (hKernel := hKernel)
    ∧ quiescent_KernelIdeal (hKernelIdeal := hKernelIdeal)
    ∧ quiescent_KernelIdeal_pre_facets_proper (hKernelIdeal := hKernelIdeal) (hPre_facets_proper := hPre_facets_proper)
    ∧ quiescent_ReferenceIdeal (hReferenceIdeal := hReferenceIdeal)
    ∧ quiescent_ReferenceIdeal_pre_facets_proper (hReferenceIdeal := hReferenceIdeal) (hPre_facets_proper := hPre_facets_proper)
    ∧ preserves_Kernel_KernelIdeal
    ∧ algebraic_KernelIdeal_ReferenceIdeal_pre_facets_proper (hKernelIdeal := hKernelIdeal) (hReferenceIdeal := hReferenceIdeal) (hPre_facets_proper := hPre_facets_proper)
-- ==== Pre_facets_proper.lean ====
abbrev S2x128x3 : Shape := ⟨3, ![2, 128, 3]⟩
abbrev S2x128x4 : Shape := ⟨3, ![2, 128, 4]⟩
abbrev S_ : Shape := ⟨0, ![]⟩
abbrev S2 : Shape := ⟨1, ![2]⟩
abbrev S2x1x1 : Shape := ⟨3, ![2, 1, 1]⟩
abbrev S256x3 : Shape := ⟨2, ![256, 3]⟩
abbrev S2x128x4x1 : Shape := ⟨4, ![2, 128, 4, 1]⟩
abbrev S2x128x4x3 : Shape := ⟨4, ![2, 128, 4, 3]⟩
abbrev S2x128x1x3 : Shape := ⟨4, ![2, 128, 1, 3]⟩
abbrev S2x128x3x3 : Shape := ⟨4, ![2, 128, 3, 3]⟩
abbrev S2x128x1x1 : Shape := ⟨4, ![2, 128, 1, 1]⟩
abbrev S2x128 : Shape := ⟨2, ![2, 128]⟩
abbrev S2x128x1 : Shape := ⟨3, ![2, 128, 1]⟩
abbrev S32 : Shape := ⟨1, ![32]⟩
abbrev S32x32x32 : Shape := ⟨3, ![32, 32, 32]⟩
abbrev S32x32x32x1 : Shape := ⟨4, ![32, 32, 32, 1]⟩
abbrev S32x32x32x3 : Shape := ⟨4, ![32, 32, 32, 3]⟩
abbrev S32768x3 : Shape := ⟨2, ![32768, 3]⟩
abbrev S1x1x32768x3 : Shape := ⟨4, ![1, 1, 32768, 3]⟩
abbrev S2x128x32768x3 : Shape := ⟨4, ![2, 128, 32768, 3]⟩
abbrev S2x128x32768 : Shape := ⟨3, ![2, 128, 32768]⟩

class Facts : Prop where
  bcast_S_S2x128x4 : S_.BroadcastsInDim S2x128x4 (![] : Fin 0 → Fin S2x128x4.rank)
  reducesTo_S2x128x4_S_d0_1_2 : S2x128x4.ReducesTo [0, 1, 2] S_
  h_S_ : 0 < S_.numel
  bcast_S_S2 : S_.BroadcastsInDim S2 (![] : Fin 0 → Fin S2.rank)
  bcast_S2_S2x1x1_0 : S2.BroadcastsInDim S2x1x1 (![0] : Fin 1 → Fin S2x1x1.rank)
  shapeCasts_S2x128x3_S256x3 : S2x128x3.ShapeCasts S256x3
  bcast_S2x1x1_S2x128x4_0_1_2 : S2x1x1.BroadcastsInDim S2x128x4 (![0, 1, 2] : Fin 3 → Fin S2x128x4.rank)
  bcast_S2x128x4_S2x128x4x1_0_1_2 : S2x128x4.BroadcastsInDim S2x128x4x1 (![0, 1, 2] : Fin 3 → Fin S2x128x4x1.rank)
  slices_S2x128x4x3_S2x128x1x3_0_0_3_0 : S2x128x4x3.Slices ![0, 0, 3, 0] S2x128x1x3
  shapeCasts_S2x128x1x3_S2x128x3 : S2x128x1x3.ShapeCasts S2x128x3
  slices_S2x128x4x3_S2x128x3x3_0_0_0_0 : S2x128x4x3.Slices ![0, 0, 0, 0] S2x128x3x3
  bcast_S2x128x3_S2x128x1x3_0_1_3 : S2x128x3.BroadcastsInDim S2x128x1x3 (![0, 1, 3] : Fin 3 → Fin S2x128x1x3.rank)
  bcast_S2x128x1x3_S2x128x3x3_0_1_2_3 : S2x128x1x3.BroadcastsInDim S2x128x3x3 (![0, 1, 2, 3] : Fin 4 → Fin S2x128x3x3.rank)
  slices_S2x128x3x3_S2x128x1x1_0_0_0_0 : S2x128x3x3.Slices ![0, 0, 0, 0] S2x128x1x1
  shapeCasts_S2x128x1x1_S2x128 : S2x128x1x1.ShapeCasts S2x128
  slices_S2x128x3x3_S2x128x1x1_0_0_1_0 : S2x128x3x3.Slices ![0, 0, 1, 0] S2x128x1x1
  slices_S2x128x3x3_S2x128x1x1_0_0_2_0 : S2x128x3x3.Slices ![0, 0, 2, 0] S2x128x1x1
  slices_S2x128x3x3_S2x128x1x1_0_0_0_1 : S2x128x3x3.Slices ![0, 0, 0, 1] S2x128x1x1
  slices_S2x128x3x3_S2x128x1x1_0_0_1_1 : S2x128x3x3.Slices ![0, 0, 1, 1] S2x128x1x1
  slices_S2x128x3x3_S2x128x1x1_0_0_2_1 : S2x128x3x3.Slices ![0, 0, 2, 1] S2x128x1x1
  slices_S2x128x3x3_S2x128x1x1_0_0_0_2 : S2x128x3x3.Slices ![0, 0, 0, 2] S2x128x1x1
  slices_S2x128x3x3_S2x128x1x1_0_0_1_2 : S2x128x3x3.Slices ![0, 0, 1, 2] S2x128x1x1
  slices_S2x128x3x3_S2x128x1x1_0_0_2_2 : S2x128x3x3.Slices ![0, 0, 2, 2] S2x128x1x1
  bcast_S2x128_S2x128x1_0_1 : S2x128.BroadcastsInDim S2x128x1 (![0, 1] : Fin 2 → Fin S2x128x1.rank)
  concatenates_S2x128x1_S2x128x1_S2x128x1_S2x128x3_d2 : Shape.Concatenates [S2x128x1, S2x128x1, S2x128x1] S2x128x3 2
  concatenates_S2x128x1x3_S2x128x1x3_S2x128x1x3_S2x128x3x3_d2 : Shape.Concatenates [S2x128x1x3, S2x128x1x3, S2x128x1x3] S2x128x3x3 2
  bcast_S_S32 : S_.BroadcastsInDim S32 (![] : Fin 0 → Fin S32.rank)
  bcast_S32_S32x32x32_0 : S32.BroadcastsInDim S32x32x32 (![0] : Fin 1 → Fin S32x32x32.rank)
  bcast_S32_S32x32x32_1 : S32.BroadcastsInDim S32x32x32 (![1] : Fin 1 → Fin S32x32x32.rank)
  bcast_S32_S32x32x32_2 : S32.BroadcastsInDim S32x32x32 (![2] : Fin 1 → Fin S32x32x32.rank)
  bcast_S32x32x32_S32x32x32x1_0_1_2 : S32x32x32.BroadcastsInDim S32x32x32x1 (![0, 1, 2] : Fin 3 → Fin S32x32x32x1.rank)
  concatenates_S32x32x32x1_S32x32x32x1_S32x32x32x1_S32x32x32x3_d3 : Shape.Concatenates [S32x32x32x1, S32x32x32x1, S32x32x32x1] S32x32x32x3 3
  shapeCasts_S32x32x32x3_S32768x3 : S32x32x32x3.ShapeCasts S32768x3
  bcast_S32768x3_S1x1x32768x3_2_3 : S32768x3.BroadcastsInDim S1x1x32768x3 (![2, 3] : Fin 2 → Fin S1x1x32768x3.rank)
  bcast_S1x1x32768x3_S2x128x32768x3_0_1_2_3 : S1x1x32768x3.BroadcastsInDim S2x128x32768x3 (![0, 1, 2, 3] : Fin 4 → Fin S2x128x32768x3.rank)
  bcast_S2x128x1x3_S2x128x32768x3_0_1_2_3 : S2x128x1x3.BroadcastsInDim S2x128x32768x3 (![0, 1, 2, 3] : Fin 4 → Fin S2x128x32768x3.rank)
  bcast_S_S2x128 : S_.BroadcastsInDim S2x128 (![] : Fin 0 → Fin S2x128.rank)
  bcast_S_S2x128x32768x3 : S_.BroadcastsInDim S2x128x32768x3 (![] : Fin 0 → Fin S2x128x32768x3.rank)
  reducesTo_S2x128x32768x3_S2x128x32768_d3 : S2x128x32768x3.ReducesTo [3] S2x128x32768
  bcast_S2x128x1_S2x128x32768_0_1_2 : S2x128x1.BroadcastsInDim S2x128x32768 (![0, 1, 2] : Fin 3 → Fin S2x128x32768.rank)
  reducesTo_S2x128x32768_S_d0_1_2 : S2x128x32768.ReducesTo [0, 1, 2] S_
  gather_S256x3_S2x128x4x1_S2x128x4x3_3_0_n_n_0_3_13_wf : GatherDims.WF S256x3 S2x128x4x1 S2x128x4x3 [3] [0] [] [0] [] 3 ![1, 3]
  dot_S2x128x32768x3_S2x128x3x3_S2x128x32768x3_3_3_2_2_01_01_wf : DotDims.WF S2x128x32768x3 S2x128x3x3 S2x128x32768x3 [3] [3] [2] [2] [0, 1] [0, 1]

variable [Facts]

def gather_S256x3_S2x128x4x1_S2x128x4x3_3_0_n_n_0_3_13 : GatherDims S256x3 S2x128x4x1 S2x128x4x3 where
  offsetDims := [3]
  collapsedSliceDims := [0]
  operandBatchingDims := []
  startIndicesBatchingDims := []
  startIndexMap := [0]
  indexVectorDim := 3
  sliceSizes := ![1, 3]
  wf := gather_S256x3_S2x128x4x1_S2x128x4x3_3_0_n_n_0_3_13_wf
def dot_S2x128x32768x3_S2x128x3x3_S2x128x32768x3_3_3_2_2_01_01 : DotDims S2x128x32768x3 S2x128x3x3 S2x128x32768x3 where
  lhsContracting := [3]
  rhsContracting := [3]
  lhsNonContracting := [2]
  rhsNonContracting := [2]
  lhsBatch := [0, 1]
  rhsBatch := [0, 1]
  wf := dot_S2x128x32768x3_S2x128x3x3_S2x128x32768x3_3_3_2_2_01_01_wf
def fn_part6 {F : FTy → Type} [FloatOps F] (main_v5 : IVec S_ 1) (main_v16 : FVec F S2x128x3 .f32) (main_v79 : FVec F S2x128 .f32) (main_v95 : FVec F S2x128x3x3 .f32) (main_v125 : FVec F S32x32x32 .f32) (main_v126 : FVec F S32x32x32x1 .f32) (main_v127 : FVec F S32x32x32x1 .f32) : IVec S_ 1 :=
  let main_v128 : FVec F S32x32x32x1 .f32 := broadcastInDim S32x32x32x1 ![0, 1, 2] bcast_S32x32x32_S32x32x32x1_0_1_2 main_v125
  let main_v129 : FVec F S32x32x32x3 .f32 := concatenate S32x32x32x3 3 [⟨S32x32x32x1, main_v126⟩, ⟨S32x32x32x1, main_v127⟩, ⟨S32x32x32x1, main_v128⟩] concatenates_S32x32x32x1_S32x32x32x1_S32x32x32x1_S32x32x32x3_d3
  let main_v130 : FVec F S32768x3 .f32 := shapeCast S32768x3 main_v129 shapeCasts_S32x32x32x3_S32768x3
  let main_v131 : FVec F S1x1x32768x3 .f32 := broadcastInDim S1x1x32768x3 ![2, 3] bcast_S32768x3_S1x1x32768x3_2_3 main_v130
  let main_v132 : FVec F S2x128x1x3 .f32 := broadcastInDim S2x128x1x3 ![0, 1, 3] bcast_S2x128x3_S2x128x1x3_0_1_3 main_v16
  let main_v133 : FVec F S2x128x32768x3 .f32 := broadcastInDim S2x128x32768x3 ![0, 1, 2, 3] bcast_S1x1x32768x3_S2x128x32768x3_0_1_2_3 main_v131
  let main_v134 : FVec F S2x128x32768x3 .f32 := broadcastInDim S2x128x32768x3 ![0, 1, 2, 3] bcast_S2x128x1x3_S2x128x32768x3_0_1_2_3 main_v132
  let main_v135 : FVec F S2x128x32768x3 .f32 := subf main_v133 main_v134
  let main_v136 : FVec F S2x128x32768x3 .f32 := (fun l r => Host.dotGeneral dot_S2x128x32768x3_S2x128x3x3_S2x128x32768x3_3_3_2_2_01_01 none l r) main_v135 main_v95
  let main_cst_14 : FVec F S_ .f32 := constant S_ .f32 0x00000000#32
  let main_v137 : FVec F S2x128 .f32 := broadcastInDim S2x128 ![] bcast_S_S2x128 main_cst_14
  let main_v138 : IVec S2x128 1 := cmpf .une main_v79 main_v137
  let main_v139 : IVec S2x128x1 1 := broadcastInDim S2x128x1 ![0, 1] bcast_S2x128_S2x128x1_0_1 main_v138
  let main_cst_15 : FVec F S_ .f32 := constant S_ .f32 0x00000000#32
  let main_v140 : FVec F S2x128x32768x3 .f32 := broadcastInDim S2x128x32768x3 ![] bcast_S_S2x128x32768x3 main_cst_15
  let main_v141 : IVec S2x128x32768x3 1 := cmpf .une main_v136 main_v140
  let main_c_16 : IVec S_ 1 := constantI S_ 1 0#1
  let main_v142 : IVec S2x128x32768 1 := (fun x v => Host.reduce IntOp.ori x v reducesTo_S2x128x32768x3_S2x128x32768_d3 h_S_) main_v141 main_c_16
  let main_v143 : IVec S2x128x32768 1 := broadcastInDim S2x128x32768 ![0, 1, 2] bcast_S2x128x1_S2x128x32768_0_1_2 main_v139
  let main_v144 : IVec S2x128x32768 1 := ori main_v143 main_v142
  let main_c_17 : IVec S_ 1 := constantI S_ 1 1#1
  let main_v145 : IVec S_ 1 := (fun x v => Host.reduce IntOp.andi x v reducesTo_S2x128x32768_S_d0_1_2 h_S_) main_v144 main_c_17
  let main_v146 : IVec S_ 1 := andi main_v5 main_v145
  main_v146

def fn_part5 {F : FTy → Type} [FloatOps F] (main_v5 : IVec S_ 1) (main_v16 : FVec F S2x128x3 .f32) (main_v79 : FVec F S2x128 .f32) (main_v95 : FVec F S2x128x3x3 .f32) (main_v104 : FVec F S32 .f32) (main_v109 : FVec F S32 .f32) : IVec S_ 1 :=
  let main_cst_8 : FVec F S_ .f32 := constant S_ .f32 0x42000000#32
  let main_v110 : FVec F S32 .f32 := broadcastInDim S32 ![] bcast_S_S32 main_cst_8
  let main_v111 : FVec F S32 .f32 := subf main_v109 main_v110
  let main_cst_9 : FVec F S_ .f32 := constant S_ .f32 0x42000000#32
  let main_v112 : FVec F S32 .f32 := broadcastInDim S32 ![] bcast_S_S32 main_cst_9
  let main_v113 : FVec F S32 .f32 := Host.divf main_v111 main_v112
  let main_v114 : FVec F S32 .f32 := sitofp .f32 (iotaInDim S32 32 0)
  let main_cst_10 : FVec F S_ .f32 := constant S_ .f32 0x40000000#32
  let main_v115 : FVec F S32 .f32 := broadcastInDim S32 ![] bcast_S_S32 main_cst_10
  let main_v116 : FVec F S32 .f32 := mulf main_v115 main_v114
  let main_cst_11 : FVec F S_ .f32 := constant S_ .f32 0x3F800000#32
  let main_v117 : FVec F S32 .f32 := broadcastInDim S32 ![] bcast_S_S32 main_cst_11
  let main_v118 : FVec F S32 .f32 := addf main_v116 main_v117
  let main_cst_12 : FVec F S_ .f32 := constant S_ .f32 0x42000000#32
  let main_v119 : FVec F S32 .f32 := broadcastInDim S32 ![] bcast_S_S32 main_cst_12
  let main_v120 : FVec F S32 .f32 := subf main_v118 main_v119
  let main_cst_13 : FVec F S_ .f32 := constant S_ .f32 0x42000000#32
  let main_v121 : FVec F S32 .f32 := broadcastInDim S32 ![] bcast_S_S32 main_cst_13
  let main_v122 : FVec F S32 .f32 := Host.divf main_v120 main_v121
  let main_v123 : FVec F S32x32x32 .f32 := broadcastInDim S32x32x32 ![0] bcast_S32_S32x32x32_0 main_v104
  let main_v124 : FVec F S32x32x32 .f32 := broadcastInDim S32x32x32 ![1] bcast_S32_S32x32x32_1 main_v113
  let main_v125 : FVec F S32x32x32 .f32 := broadcastInDim S32x32x32 ![2] bcast_S32_S32x32x32_2 main_v122
  let main_v126 : FVec F S32x32x32x1 .f32 := broadcastInDim S32x32x32x1 ![0, 1, 2] bcast_S32x32x32_S32x32x32x1_0_1_2 main_v123
  let main_v127 : FVec F S32x32x32x1 .f32 := broadcastInDim S32x32x32x1 ![0, 1, 2] bcast_S32x32x32_S32x32x32x1_0_1_2 main_v124
  fn_part6 (F := F) main_v5 main_v16 main_v79 main_v95 main_v125 main_v126 main_v127

def fn_part4 {F : FTy → Type} [FloatOps F] (main_v5 : IVec S_ 1) (main_v16 : FVec F S2x128x3 .f32) (main_v79 : FVec F S2x128 .f32) (main_v83 : FVec F S2x128x3 .f32) (main_v87 : FVec F S2x128x3 .f32) (main_v91 : FVec F S2x128x3 .f32) : IVec S_ 1 :=
  let main_v92 : FVec F S2x128x1x3 .f32 := broadcastInDim S2x128x1x3 ![0, 1, 3] bcast_S2x128x3_S2x128x1x3_0_1_3 main_v83
  let main_v93 : FVec F S2x128x1x3 .f32 := broadcastInDim S2x128x1x3 ![0, 1, 3] bcast_S2x128x3_S2x128x1x3_0_1_3 main_v87
  let main_v94 : FVec F S2x128x1x3 .f32 := broadcastInDim S2x128x1x3 ![0, 1, 3] bcast_S2x128x3_S2x128x1x3_0_1_3 main_v91
  let main_v95 : FVec F S2x128x3x3 .f32 := concatenate S2x128x3x3 2 [⟨S2x128x1x3, main_v92⟩, ⟨S2x128x1x3, main_v93⟩, ⟨S2x128x1x3, main_v94⟩] concatenates_S2x128x1x3_S2x128x1x3_S2x128x1x3_S2x128x3x3_d2
  let main_v96 : FVec F S32 .f32 := sitofp .f32 (iotaInDim S32 32 0)
  let main_cst : FVec F S_ .f32 := constant S_ .f32 0x40000000#32
  let main_v97 : FVec F S32 .f32 := broadcastInDim S32 ![] bcast_S_S32 main_cst
  let main_v98 : FVec F S32 .f32 := mulf main_v97 main_v96
  let main_cst_3 : FVec F S_ .f32 := constant S_ .f32 0x3F800000#32
  let main_v99 : FVec F S32 .f32 := broadcastInDim S32 ![] bcast_S_S32 main_cst_3
  let main_v100 : FVec F S32 .f32 := addf main_v98 main_v99
  let main_cst_4 : FVec F S_ .f32 := constant S_ .f32 0x42000000#32
  let main_v101 : FVec F S32 .f32 := broadcastInDim S32 ![] bcast_S_S32 main_cst_4
  let main_v102 : FVec F S32 .f32 := subf main_v100 main_v101
  let main_cst_5 : FVec F S_ .f32 := constant S_ .f32 0x42000000#32
  let main_v103 : FVec F S32 .f32 := broadcastInDim S32 ![] bcast_S_S32 main_cst_5
  let main_v104 : FVec F S32 .f32 := Host.divf main_v102 main_v103
  let main_v105 : FVec F S32 .f32 := sitofp .f32 (iotaInDim S32 32 0)
  let main_cst_6 : FVec F S_ .f32 := constant S_ .f32 0x40000000#32
  let main_v106 : FVec F S32 .f32 := broadcastInDim S32 ![] bcast_S_S32 main_cst_6
  let main_v107 : FVec F S32 .f32 := mulf main_v106 main_v105
  let main_cst_7 : FVec F S_ .f32 := constant S_ .f32 0x3F800000#32
  let main_v108 : FVec F S32 .f32 := broadcastInDim S32 ![] bcast_S_S32 main_cst_7
  let main_v109 : FVec F S32 .f32 := addf main_v107 main_v108
  fn_part5 (F := F) main_v5 main_v16 main_v79 main_v95 main_v104 main_v109

def fn_part3 {F : FTy → Type} [FloatOps F] (main_v5 : IVec S_ 1) (main_v16 : FVec F S2x128x3 .f32) (main_v22 : FVec F S2x128 .f32) (main_v24 : FVec F S2x128 .f32) (main_v26 : FVec F S2x128 .f32) (main_v28 : FVec F S2x128 .f32) (main_v30 : FVec F S2x128 .f32) (main_v32 : FVec F S2x128 .f32) (main_v34 : FVec F S2x128 .f32) (main_v36 : FVec F S2x128 .f32) (main_v38 : FVec F S2x128 .f32) (main_v41 : FVec F S2x128 .f32) (main_v44 : FVec F S2x128 .f32) (main_v47 : FVec F S2x128 .f32) (main_v50 : FVec F S2x128 .f32) (main_v53 : FVec F S2x128 .f32) (main_v56 : FVec F S2x128 .f32) (main_v59 : FVec F S2x128 .f32) (main_v62 : FVec F S2x128 .f32) (main_v65 : FVec F S2x128 .f32) (main_v66 : FVec F S2x128 .f32) (main_v67 : FVec F S2x128 .f32) : IVec S_ 1 :=
  let main_v68 : FVec F S2x128 .f32 := subf main_v66 main_v67
  let main_v69 : FVec F S2x128 .f32 := mulf main_v22 main_v68
  let main_v70 : FVec F S2x128 .f32 := mulf main_v28 main_v38
  let main_v71 : FVec F S2x128 .f32 := mulf main_v32 main_v34
  let main_v72 : FVec F S2x128 .f32 := subf main_v70 main_v71
  let main_v73 : FVec F S2x128 .f32 := mulf main_v24 main_v72
  let main_v74 : FVec F S2x128 .f32 := subf main_v69 main_v73
  let main_v75 : FVec F S2x128 .f32 := mulf main_v28 main_v36
  let main_v76 : FVec F S2x128 .f32 := mulf main_v30 main_v34
  let main_v77 : FVec F S2x128 .f32 := subf main_v75 main_v76
  let main_v78 : FVec F S2x128 .f32 := mulf main_v26 main_v77
  let main_v79 : FVec F S2x128 .f32 := addf main_v74 main_v78
  let main_v80 : FVec F S2x128x1 .f32 := broadcastInDim S2x128x1 ![0, 1] bcast_S2x128_S2x128x1_0_1 main_v41
  let main_v81 : FVec F S2x128x1 .f32 := broadcastInDim S2x128x1 ![0, 1] bcast_S2x128_S2x128x1_0_1 main_v44
  let main_v82 : FVec F S2x128x1 .f32 := broadcastInDim S2x128x1 ![0, 1] bcast_S2x128_S2x128x1_0_1 main_v47
  let main_v83 : FVec F S2x128x3 .f32 := concatenate S2x128x3 2 [⟨S2x128x1, main_v80⟩, ⟨S2x128x1, main_v81⟩, ⟨S2x128x1, main_v82⟩] concatenates_S2x128x1_S2x128x1_S2x128x1_S2x128x3_d2
  let main_v84 : FVec F S2x128x1 .f32 := broadcastInDim S2x128x1 ![0, 1] bcast_S2x128_S2x128x1_0_1 main_v50
  let main_v85 : FVec F S2x128x1 .f32 := broadcastInDim S2x128x1 ![0, 1] bcast_S2x128_S2x128x1_0_1 main_v53
  let main_v86 : FVec F S2x128x1 .f32 := broadcastInDim S2x128x1 ![0, 1] bcast_S2x128_S2x128x1_0_1 main_v56
  let main_v87 : FVec F S2x128x3 .f32 := concatenate S2x128x3 2 [⟨S2x128x1, main_v84⟩, ⟨S2x128x1, main_v85⟩, ⟨S2x128x1, main_v86⟩] concatenates_S2x128x1_S2x128x1_S2x128x1_S2x128x3_d2
  let main_v88 : FVec F S2x128x1 .f32 := broadcastInDim S2x128x1 ![0, 1] bcast_S2x128_S2x128x1_0_1 main_v59
  let main_v89 : FVec F S2x128x1 .f32 := broadcastInDim S2x128x1 ![0, 1] bcast_S2x128_S2x128x1_0_1 main_v62
  let main_v90 : FVec F S2x128x1 .f32 := broadcastInDim S2x128x1 ![0, 1] bcast_S2x128_S2x128x1_0_1 main_v65
  let main_v91 : FVec F S2x128x3 .f32 := concatenate S2x128x3 2 [⟨S2x128x1, main_v88⟩, ⟨S2x128x1, main_v89⟩, ⟨S2x128x1, main_v90⟩] concatenates_S2x128x1_S2x128x1_S2x128x1_S2x128x3_d2
  fn_part4 (F := F) main_v5 main_v16 main_v79 main_v83 main_v87 main_v91

def fn_part2 {F : FTy → Type} [FloatOps F] (main_v5 : IVec S_ 1) (main_v16 : FVec F S2x128x3 .f32) (main_v22 : FVec F S2x128 .f32) (main_v24 : FVec F S2x128 .f32) (main_v26 : FVec F S2x128 .f32) (main_v28 : FVec F S2x128 .f32) (main_v30 : FVec F S2x128 .f32) (main_v32 : FVec F S2x128 .f32) (main_v34 : FVec F S2x128 .f32) (main_v36 : FVec F S2x128 .f32) (main_v38 : FVec F S2x128 .f32) (main_v41 : FVec F S2x128 .f32) (main_v42 : FVec F S2x128 .f32) (main_v43 : FVec F S2x128 .f32) : IVec S_ 1 :=
  let main_v44 : FVec F S2x128 .f32 := subf main_v42 main_v43
  let main_v45 : FVec F S2x128 .f32 := mulf main_v24 main_v32
  let main_v46 : FVec F S2x128 .f32 := mulf main_v26 main_v30
  let main_v47 : FVec F S2x128 .f32 := subf main_v45 main_v46
  let main_v48 : FVec F S2x128 .f32 := mulf main_v32 main_v34
  let main_v49 : FVec F S2x128 .f32 := mulf main_v28 main_v38
  let main_v50 : FVec F S2x128 .f32 := subf main_v48 main_v49
  let main_v51 : FVec F S2x128 .f32 := mulf main_v22 main_v38
  let main_v52 : FVec F S2x128 .f32 := mulf main_v26 main_v34
  let main_v53 : FVec F S2x128 .f32 := subf main_v51 main_v52
  let main_v54 : FVec F S2x128 .f32 := mulf main_v26 main_v28
  let main_v55 : FVec F S2x128 .f32 := mulf main_v22 main_v32
  let main_v56 : FVec F S2x128 .f32 := subf main_v54 main_v55
  let main_v57 : FVec F S2x128 .f32 := mulf main_v28 main_v36
  let main_v58 : FVec F S2x128 .f32 := mulf main_v30 main_v34
  let main_v59 : FVec F S2x128 .f32 := subf main_v57 main_v58
  let main_v60 : FVec F S2x128 .f32 := mulf main_v24 main_v34
  let main_v61 : FVec F S2x128 .f32 := mulf main_v22 main_v36
  let main_v62 : FVec F S2x128 .f32 := subf main_v60 main_v61
  let main_v63 : FVec F S2x128 .f32 := mulf main_v22 main_v30
  let main_v64 : FVec F S2x128 .f32 := mulf main_v24 main_v28
  let main_v65 : FVec F S2x128 .f32 := subf main_v63 main_v64
  let main_v66 : FVec F S2x128 .f32 := mulf main_v30 main_v38
  let main_v67 : FVec F S2x128 .f32 := mulf main_v32 main_v36
  fn_part3 (F := F) main_v5 main_v16 main_v22 main_v24 main_v26 main_v28 main_v30 main_v32 main_v34 main_v36 main_v38 main_v41 main_v44 main_v47 main_v50 main_v53 main_v56 main_v59 main_v62 main_v65 main_v66 main_v67

def fn_part1 {F : FTy → Type} [FloatOps F] (main_v5 : IVec S_ 1) (main_v16 : FVec F S2x128x3 .f32) (main_v17 : FVec F S2x128x3x3 .f32) (main_v19 : FVec F S2x128x3x3 .f32) : IVec S_ 1 :=
  let main_v20 : FVec F S2x128x3x3 .f32 := subf main_v17 main_v19
  let main_v21 : FVec F S2x128x1x1 .f32 := (extractStridedSlice S2x128x1x1 ![0, 0, 0, 0] · slices_S2x128x3x3_S2x128x1x1_0_0_0_0) main_v20
  let main_v22 : FVec F S2x128 .f32 := shapeCast S2x128 main_v21 shapeCasts_S2x128x1x1_S2x128
  let main_v23 : FVec F S2x128x1x1 .f32 := (extractStridedSlice S2x128x1x1 ![0, 0, 1, 0] · slices_S2x128x3x3_S2x128x1x1_0_0_1_0) main_v20
  let main_v24 : FVec F S2x128 .f32 := shapeCast S2x128 main_v23 shapeCasts_S2x128x1x1_S2x128
  let main_v25 : FVec F S2x128x1x1 .f32 := (extractStridedSlice S2x128x1x1 ![0, 0, 2, 0] · slices_S2x128x3x3_S2x128x1x1_0_0_2_0) main_v20
  let main_v26 : FVec F S2x128 .f32 := shapeCast S2x128 main_v25 shapeCasts_S2x128x1x1_S2x128
  let main_v27 : FVec F S2x128x1x1 .f32 := (extractStridedSlice S2x128x1x1 ![0, 0, 0, 1] · slices_S2x128x3x3_S2x128x1x1_0_0_0_1) main_v20
  let main_v28 : FVec F S2x128 .f32 := shapeCast S2x128 main_v27 shapeCasts_S2x128x1x1_S2x128
  let main_v29 : FVec F S2x128x1x1 .f32 := (extractStridedSlice S2x128x1x1 ![0, 0, 1, 1] · slices_S2x128x3x3_S2x128x1x1_0_0_1_1) main_v20
  let main_v30 : FVec F S2x128 .f32 := shapeCast S2x128 main_v29 shapeCasts_S2x128x1x1_S2x128
  let main_v31 : FVec F S2x128x1x1 .f32 := (extractStridedSlice S2x128x1x1 ![0, 0, 2, 1] · slices_S2x128x3x3_S2x128x1x1_0_0_2_1) main_v20
  let main_v32 : FVec F S2x128 .f32 := shapeCast S2x128 main_v31 shapeCasts_S2x128x1x1_S2x128
  let main_v33 : FVec F S2x128x1x1 .f32 := (extractStridedSlice S2x128x1x1 ![0, 0, 0, 2] · slices_S2x128x3x3_S2x128x1x1_0_0_0_2) main_v20
  let main_v34 : FVec F S2x128 .f32 := shapeCast S2x128 main_v33 shapeCasts_S2x128x1x1_S2x128
  let main_v35 : FVec F S2x128x1x1 .f32 := (extractStridedSlice S2x128x1x1 ![0, 0, 1, 2] · slices_S2x128x3x3_S2x128x1x1_0_0_1_2) main_v20
  let main_v36 : FVec F S2x128 .f32 := shapeCast S2x128 main_v35 shapeCasts_S2x128x1x1_S2x128
  let main_v37 : FVec F S2x128x1x1 .f32 := (extractStridedSlice S2x128x1x1 ![0, 0, 2, 2] · slices_S2x128x3x3_S2x128x1x1_0_0_2_2) main_v20
  let main_v38 : FVec F S2x128 .f32 := shapeCast S2x128 main_v37 shapeCasts_S2x128x1x1_S2x128
  let main_v39 : FVec F S2x128 .f32 := mulf main_v30 main_v38
  let main_v40 : FVec F S2x128 .f32 := mulf main_v32 main_v36
  let main_v41 : FVec F S2x128 .f32 := subf main_v39 main_v40
  let main_v42 : FVec F S2x128 .f32 := mulf main_v26 main_v36
  let main_v43 : FVec F S2x128 .f32 := mulf main_v24 main_v38
  fn_part2 (F := F) main_v5 main_v16 main_v22 main_v24 main_v26 main_v28 main_v30 main_v32 main_v34 main_v36 main_v38 main_v41 main_v42 main_v43

def fn {F : FTy → Type} [FloatOps F] (main_arg0 : FVec F S2x128x3 .f32) (main_arg1 : IVec S2x128x4 32) : IVec S_ 1 :=
  let main_c : IVec S_ 32 := constantI S_ 32 0#32
  let main_v0 : IVec S2x128x4 32 := broadcastInDim S2x128x4 ![] bcast_S_S2x128x4 main_c
  let main_v1 : IVec S2x128x4 1 := cmpi .sge main_arg1 main_v0
  let main_c_0 : IVec S_ 32 := constantI S_ 32 128#32
  let main_v2 : IVec S2x128x4 32 := broadcastInDim S2x128x4 ![] bcast_S_S2x128x4 main_c_0
  let main_v3 : IVec S2x128x4 1 := cmpi .slt main_arg1 main_v2
  let main_v4 : IVec S2x128x4 1 := andi main_v1 main_v3
  let main_c_1 : IVec S_ 1 := constantI S_ 1 1#1
  let main_v5 : IVec S_ 1 := (fun x v => Host.reduce IntOp.andi x v reducesTo_S2x128x4_S_d0_1_2 h_S_) main_v4 main_c_1
  let main_v6 : IVec S2 32 := iotaInDim S2 32 0
  let main_c_2 : IVec S_ 32 := constantI S_ 32 128#32
  let main_v7 : IVec S2 32 := broadcastInDim S2 ![] bcast_S_S2 main_c_2
  let main_v8 : IVec S2 32 := muli main_v6 main_v7
  let main_v9 : IVec S2x1x1 32 := broadcastInDim S2x1x1 ![0] bcast_S2_S2x1x1_0 main_v8
  let main_v10 : FVec F S256x3 .f32 := shapeCast S256x3 main_arg0 shapeCasts_S2x128x3_S256x3
  let main_v11 : IVec S2x128x4 32 := broadcastInDim S2x128x4 ![0, 1, 2] bcast_S2x1x1_S2x128x4_0_1_2 main_v9
  let main_v12 : IVec S2x128x4 32 := addi main_arg1 main_v11
  let main_v13 : IVec S2x128x4x1 32 := broadcastInDim S2x128x4x1 ![0, 1, 2] bcast_S2x128x4_S2x128x4x1_0_1_2 main_v12
  let main_v14 : FVec F S2x128x4x3 .f32 := (fun x i => Host.gather gather_S256x3_S2x128x4x1_S2x128x4x3_3_0_n_n_0_3_13 x i) main_v10 main_v13
  let main_v15 : FVec F S2x128x1x3 .f32 := (extractStridedSlice S2x128x1x3 ![0, 0, 3, 0] · slices_S2x128x4x3_S2x128x1x3_0_0_3_0) main_v14
  let main_v16 : FVec F S2x128x3 .f32 := shapeCast S2x128x3 main_v15 shapeCasts_S2x128x1x3_S2x128x3
  let main_v17 : FVec F S2x128x3x3 .f32 := (extractStridedSlice S2x128x3x3 ![0, 0, 0, 0] · slices_S2x128x4x3_S2x128x3x3_0_0_0_0) main_v14
  let main_v18 : FVec F S2x128x1x3 .f32 := broadcastInDim S2x128x1x3 ![0, 1, 3] bcast_S2x128x3_S2x128x1x3_0_1_3 main_v16
  let main_v19 : FVec F S2x128x3x3 .f32 := broadcastInDim S2x128x3x3 ![0, 1, 2, 3] bcast_S2x128x1x3_S2x128x3x3_0_1_2_3 main_v18
  fn_part1 (F := F) main_v5 main_v16 main_v17 main_v19
-- ==== Kernel.lean ====
abbrev S2x128x3 : Shape := ⟨3, ![2, 128, 3]⟩
abbrev S2x128x4 : Shape := ⟨3, ![2, 128, 4]⟩
abbrev S256x3 : Shape := ⟨2, ![256, 3]⟩
abbrev S3x256 : Shape := ⟨2, ![3, 256]⟩
abbrev S_ : Shape := ⟨0, ![]⟩
abbrev S8x512 : Shape := ⟨2, ![8, 512]⟩
abbrev S2 : Shape := ⟨1, ![2]⟩
abbrev S2x1x1 : Shape := ⟨3, ![2, 1, 1]⟩
abbrev S2x4x128 : Shape := ⟨3, ![2, 4, 128]⟩
abbrev S1x4x128 : Shape := ⟨3, ![1, 4, 128]⟩
abbrev S4x128 : Shape := ⟨2, ![4, 128]⟩
abbrev S4x256 : Shape := ⟨2, ![4, 256]⟩
abbrev S8x256 : Shape := ⟨2, ![8, 256]⟩
abbrev S2x32768 : Shape := ⟨2, ![2, 32768]⟩
abbrev S2x32x32x32 : Shape := ⟨4, ![2, 32, 32, 32]⟩
abbrev S8x32768 : Shape := ⟨2, ![8, 32768]⟩
abbrev S512x256 : Shape := ⟨2, ![512, 256]⟩
abbrev S1x256 : Shape := ⟨2, ![1, 256]⟩
abbrev S16x256 : Shape := ⟨2, ![16, 256]⟩
abbrev S1x32768 : Shape := ⟨2, ![1, 32768]⟩
abbrev S8x1 : Shape := ⟨2, ![8, 1]⟩
abbrev S64x1 : Shape := ⟨2, ![64, 1]⟩
abbrev S64x32768 : Shape := ⟨2, ![64, 32768]⟩
abbrev S64x256 : Shape := ⟨2, ![64, 256]⟩
abbrev S8x64 : Shape := ⟨2, ![8, 64]⟩
abbrev S64 : Shape := ⟨1, ![64]⟩
abbrev S8 : Shape := ⟨1, ![8]⟩
abbrev S24x64 : Shape := ⟨2, ![24, 64]⟩
abbrev S24x32768 : Shape := ⟨2, ![24, 32768]⟩
abbrev S4x32768 : Shape := ⟨2, ![4, 32768]⟩

abbrev nBuf : Space → Nat
  | .hbm => 25
  | .vmem => 4
  | .smem => 0
  | _ => 0

abbrev bufTy : (tb : Table) → Fin (tcTables nBuf tb) → BufTy
  | .hbm, ⟨0, _⟩ => ⟨S2x128x3, .f32⟩
  | .hbm, ⟨1, _⟩ => ⟨S2x128x4, .i32⟩
  | .hbm, ⟨2, _⟩ => ⟨S256x3, .f32⟩
  | .hbm, ⟨3, _⟩ => ⟨S3x256, .f32⟩
  | .hbm, ⟨4, _⟩ => ⟨S_, .i32⟩
  | .hbm, ⟨5, _⟩ => ⟨S_, .f32⟩
  | .hbm, ⟨6, _⟩ => ⟨S8x512, .f32⟩
  | .hbm, ⟨7, _⟩ => ⟨S2, .i32⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2x1x1, .i32⟩
  | .hbm, ⟨12, _⟩ => ⟨S2x128x4, .i32⟩
  | .hbm, ⟨13, _⟩ => ⟨S2x128x4, .i32⟩
  | .hbm, ⟨14, _⟩ => ⟨S2x4x128, .i32⟩
  | .hbm, ⟨15, _⟩ => ⟨S1x4x128, .i32⟩
  | .hbm, ⟨16, _⟩ => ⟨S4x128, .i32⟩
  | .hbm, ⟨17, _⟩ => ⟨S1x4x128, .i32⟩
  | .hbm, ⟨18, _⟩ => ⟨S4x128, .i32⟩
  | .hbm, ⟨19, _⟩ => ⟨S4x256, .i32⟩
  | .hbm, ⟨20, _⟩ => ⟨S_, .i32⟩
  | .hbm, ⟨21, _⟩ => ⟨S_, .i32⟩
  | .hbm, ⟨22, _⟩ => ⟨S8x256, .i32⟩
  | .hbm, ⟨23, _⟩ => ⟨S2x32768, .f32⟩
  | .hbm, ⟨24, _⟩ => ⟨S2x32x32x32, .f32⟩
  | .local _ .vmem, ⟨0, _⟩ => ⟨S8x512, .f32⟩
  | .local _ .vmem, ⟨1, _⟩ => ⟨S8x256, .i32⟩
  | .local _ .vmem, ⟨2, _⟩ => ⟨S2x32768, .f32⟩
  | .local _ .vmem, ⟨3, _⟩ => ⟨S8x32768, .f32⟩
  | _, _ => ⟨S2x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_c : Ref sig .tc := ⟨.hbm, 4, rfl⟩
abbrev main_call0_call0_v0 : Ref sig .tc := ⟨.hbm, 5, rfl⟩
abbrev main_call0_v2 : Ref sig .tc := ⟨.hbm, 6, rfl⟩
abbrev main_call0_v3 : Ref sig .tc := ⟨.hbm, 7, rfl⟩
abbrev main_call0_c_0 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_call0_c_1 : Ref sig .tc := ⟨.hbm, 20, rfl⟩
abbrev main_call0_call1_v0 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_106 : BitVec 32 := 0#32
  let c16_i32 : BitVec 32 := 16#32
  let v432 : BitVec 32 := Scalar.addi c0_i32_106 c16_i32
  let c1_i32_107 : BitVec 32 := 1#32
  ⟨c0_i32_106, v432, c1_i32_107⟩
@[reducible] def k0_t2_loop : Scf.Loop 32 :=
  let c0_i32_116 : BitVec 32 := 0#32
  let c16_i32_117 : BitVec 32 := 16#32
  let v448 : BitVec 32 := Scalar.addi c0_i32_116 c16_i32_117
  let c1_i32_118 : BitVec 32 := 1#32
  ⟨c0_i32_116, v448, c1_i32_118⟩
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S2x128x3 : Shape := ⟨3, ![2, 128, 3]⟩
abbrev S2x128x4 : Shape := ⟨3, ![2, 128, 4]⟩
abbrev S2 : Shape := ⟨1, ![2]⟩
abbrev S_ : Shape := ⟨0, ![]⟩
abbrev S2x1x1 : Shape := ⟨3, ![2, 1, 1]⟩
abbrev S256x3 : Shape := ⟨2, ![256, 3]⟩
abbrev S2x128x4x1 : Shape := ⟨4, ![2, 128, 4, 1]⟩
abbrev S1 : Shape := ⟨1, ![1]⟩
abbrev S1x1x1x1 : Shape := ⟨4, ![1, 1, 1, 1]⟩
abbrev S2x128x4x3 : Shape := ⟨4, ![2, 128, 4, 3]⟩
abbrev S2x128x1x3 : Shape := ⟨4, ![2, 128, 1, 3]⟩
abbrev S2x128x3x3 : Shape := ⟨4, ![2, 128, 3, 3]⟩
abbrev S2x128x1x1 : Shape := ⟨4, ![2, 128, 1, 1]⟩
abbrev S2x128 : Shape := ⟨2, ![2, 128]⟩
abbrev S2x128x1 : Shape := ⟨3, ![2, 128, 1]⟩
abbrev S32 : Shape := ⟨1, ![32]⟩
abbrev S32x32x32 : Shape := ⟨3, ![32, 32, 32]⟩
abbrev S32x32x32x1 : Shape := ⟨4, ![32, 32, 32, 1]⟩
abbrev S32x32x32x3 : Shape := ⟨4, ![32, 32, 32, 3]⟩
abbrev S32768x3 : Shape := ⟨2, ![32768, 3]⟩
abbrev S1x1x32768x3 : Shape := ⟨4, ![1, 1, 32768, 3]⟩
abbrev S2x128x32768x3 : Shape := ⟨4, ![2, 128, 32768, 3]⟩
abbrev S2x128x32768 : Shape := ⟨3, ![2, 128, 32768]⟩
abbrev S2x128x32768x1 : Shape := ⟨4, ![2, 128, 32768, 1]⟩
abbrev S2x128x32768x4 : Shape := ⟨4, ![2, 128, 32768, 4]⟩
abbrev S2x32768 : Shape := ⟨2, ![2, 32768]⟩
abbrev S2x32x32x32 : Shape := ⟨4, ![2, 32, 32, 32]⟩

abbrev nBuf : Space → Nat
  | .hbm => 190
  | .vmem => 0
  | .smem => 0
  | _ => 0

abbrev hbmTy0_0 (i : Nat) : BufTy := match i % 128 with
  | 0 => ⟨S2x128x3, .f32⟩
  | 1 => ⟨S2x128x4, .i32⟩
  | 2 => ⟨S2, .i32⟩
  | 3 => ⟨S_, .i32⟩
  | 4 => ⟨S2, .i32⟩
  | 5 => ⟨S2, .i32⟩
  | 6 => ⟨S2x1x1, .i32⟩
  | 7 => ⟨S2x128x4, .i32⟩
  | 8 => ⟨S2x128x4, .i32⟩
  | 9 => ⟨S256x3, .f32⟩
  | 10 => ⟨S_, .i32⟩
  | 11 => ⟨S2x128x4, .i32⟩
  | 12 => ⟨S2x128x4, .i1⟩
  | 13 => ⟨S_, .i32⟩
  | 14 => ⟨S2x128x4, .i32⟩
  | 15 => ⟨S2x128x4, .i32⟩
  | 16 => ⟨S2x128x4, .i32⟩
  | 17 => ⟨S2x128x4x1, .i32⟩
  | 18 => ⟨S1, .i32⟩
  | 19 => ⟨S_, .i32⟩
  | 20 => ⟨S2x128x4x1, .i32⟩
  | 21 => ⟨S2x128x4x1, .i1⟩
  | 22 => ⟨S1x1x1x1, .i32⟩
  | 23 => ⟨S2x128x4x1, .i32⟩
  | 24 => ⟨S2x128x4x1, .i1⟩
  | 25 => ⟨S2x128x4x1, .i1⟩
  | 26 => ⟨S_, .i1⟩
  | 27 => ⟨S2x128x4, .i1⟩
  | 28 => ⟨S2x128x4x3, .f32⟩
  | 29 => ⟨S2x128x4x3, .i1⟩
  | 30 => ⟨S_, .f32⟩
  | 31 => ⟨S2x128x4x3, .f32⟩
  | 32 => ⟨S2x128x4x3, .f32⟩
  | 33 => ⟨S2x128x1x3, .f32⟩
  | 34 => ⟨S2x128x3, .f32⟩
  | 35 => ⟨S2x128x3x3, .f32⟩
  | 36 => ⟨S2x128x1x3, .f32⟩
  | 37 => ⟨S2x128x3x3, .f32⟩
  | 38 => ⟨S2x128x3x3, .f32⟩
  | 39 => ⟨S2x128x1x1, .f32⟩
  | 40 => ⟨S2x128, .f32⟩
  | 41 => ⟨S2x128x1x1, .f32⟩
  | 42 => ⟨S2x128, .f32⟩
  | 43 => ⟨S2x128x1x1, .f32⟩
  | 44 => ⟨S2x128, .f32⟩
  | 45 => ⟨S2x128x1x1, .f32⟩
  | 46 => ⟨S2x128, .f32⟩
  | 47 => ⟨S2x128x1x1, .f32⟩
  | 48 => ⟨S2x128, .f32⟩
  | 49 => ⟨S2x128x1x1, .f32⟩
  | 50 => ⟨S2x128, .f32⟩
  | 51 => ⟨S2x128x1x1, .f32⟩
  | 52 => ⟨S2x128, .f32⟩
  | 53 => ⟨S2x128x1x1, .f32⟩
  | 54 => ⟨S2x128, .f32⟩
  | 55 => ⟨S2x128x1x1, .f32⟩
  | 56 => ⟨S2x128, .f32⟩
  | 57 => ⟨S2x128, .f32⟩
  | 58 => ⟨S2x128, .f32⟩
  | 59 => ⟨S2x128, .f32⟩
  | 60 => ⟨S2x128, .f32⟩
  | 61 => ⟨S2x128, .f32⟩
  | 62 => ⟨S2x128, .f32⟩
  | 63 => ⟨S2x128, .f32⟩
  | 64 => ⟨S2x128, .f32⟩
  | 65 => ⟨S2x128, .f32⟩
  | 66 => ⟨S2x128, .f32⟩
  | 67 => ⟨S2x128, .f32⟩
  | 68 => ⟨S2x128, .f32⟩
  | 69 => ⟨S2x128, .f32⟩
  | 70 => ⟨S2x128, .f32⟩
  | 71 => ⟨S2x128, .f32⟩
  | 72 => ⟨S2x128, .f32⟩
  | 73 => ⟨S2x128, .f32⟩
  | 74 => ⟨S2x128, .f32⟩
  | 75 => ⟨S2x128, .f32⟩
  | 76 => ⟨S2x128, .f32⟩
  | 77 => ⟨S2x128, .f32⟩
  | 78 => ⟨S2x128, .f32⟩
  | 79 => ⟨S2x128, .f32⟩
  | 80 => ⟨S2x128, .f32⟩
  | 81 => ⟨S2x128, .f32⟩
  | 82 => ⟨S2x128, .f32⟩
  | 83 => ⟨S2x128, .f32⟩
  | 84 => ⟨S2x128, .f32⟩
  | 85 => ⟨S2x128, .f32⟩
  | 86 => ⟨S2x128, .f32⟩
  | 87 => ⟨S2x128, .f32⟩
  | 88 => ⟨S2x128, .f32⟩
  | 89 => ⟨S2x128, .f32⟩
  | 90 => ⟨S2x128, .f32⟩
  | 91 => ⟨S2x128, .f32⟩
  | 92 => ⟨S2x128, .f32⟩
  | 93 => ⟨S2x128, .f32⟩
  | 94 => ⟨S2x128, .f32⟩
  | 95 => ⟨S2x128, .f32⟩
  | 96 => ⟨S2x128, .f32⟩
  | 97 => ⟨S2x128, .f32⟩
  | 98 => ⟨S2x128x1, .f32⟩
  | 99 => ⟨S2x128x1, .f32⟩
  | 100 => ⟨S2x128x1, .f32⟩
  | 101 => ⟨S2x128x3, .f32⟩
  | 102 => ⟨S2x128x1, .f32⟩
  | 103 => ⟨S2x128x1, .f32⟩
  | 104 => ⟨S2x128x1, .f32⟩
  | 105 => ⟨S2x128x3, .f32⟩
  | 106 => ⟨S2x128x1, .f32⟩
  | 107 => ⟨S2x128x1, .f32⟩
  | 108 => ⟨S2x128x1, .f32⟩
  | 109 => ⟨S2x128x3, .f32⟩
  | 110 => ⟨S2x128x1x3, .f32⟩
  | 111 => ⟨S2x128x1x3, .f32⟩
  | 112 => ⟨S2x128x1x3, .f32⟩
  | 113 => ⟨S2x128x3x3, .f32⟩
  | 114 => ⟨S32, .f32⟩
  | 115 => ⟨S_, .f32⟩
  | 116 => ⟨S32, .f32⟩
  | 117 => ⟨S32, .f32⟩
  | 118 => ⟨S_, .f32⟩
  | 119 => ⟨S32, .f32⟩
  | 120 => ⟨S32, .f32⟩
  | 121 => ⟨S_, .f32⟩
  | 122 => ⟨S32, .f32⟩
  | 123 => ⟨S32, .f32⟩
  | 124 => ⟨S_, .f32⟩
  | 125 => ⟨S32, .f32⟩
  | 126 => ⟨S32, .f32⟩
  | 127 => ⟨S32, .f32⟩
  | _ => ⟨S2x128x3, .f32⟩

abbrev hbmTy0_1 (i : Nat) : BufTy := match i % 128 with
  | 0 => ⟨S_, .f32⟩
  | 1 => ⟨S32, .f32⟩
  | 2 => ⟨S32, .f32⟩
  | 3 => ⟨S_, .f32⟩
  | 4 => ⟨S32, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S32x32x32, .f32⟩
  | 26 => ⟨S32x32x32, .f32⟩
  | 27 => ⟨S32x32x32, .f32⟩
  | 28 => ⟨S32x32x32x1, .f32⟩
  | 29 => ⟨S32x32x32x1, .f32⟩
  | 30 => ⟨S32x32x32x1, .f32⟩
  | 31 => ⟨S32x32x32x3, .f32⟩
  | 32 => ⟨S32768x3, .f32⟩
  | 33 => ⟨S1x1x32768x3, .f32⟩
  | 34 => ⟨S2x128x1x3, .f32⟩
  | 35 => ⟨S2x128x32768x3, .f32⟩
  | 36 => ⟨S2x128x32768x3, .f32⟩
  | 37 => ⟨S2x128x32768x3, .f32⟩
  | 38 => ⟨S2x128x32768x3, .f32⟩
  | 39 => ⟨S2x128x1x1, .f32⟩
  | 40 => ⟨S2x128x32768x3, .f32⟩
  | 41 => ⟨S2x128x32768x3, .f32⟩
  | 42 => ⟨S_, .f32⟩
  | 43 => ⟨S2x128x32768, .f32⟩
  | 44 => ⟨S_, .f32⟩
  | 45 => ⟨S2x128x32768, .f32⟩
  | 46 => ⟨S2x128x32768, .f32⟩
  | 47 => ⟨S2x128x32768x1, .f32⟩
  | 48 => ⟨S2x128x32768x4, .f32⟩
  | 49 => ⟨S_, .f32⟩
  | 50 => ⟨S2x128x32768x4, .f32⟩
  | 51 => ⟨S2x128x32768x4, .i1⟩
  | 52 => ⟨S_, .f32⟩
  | 53 => ⟨S2x128x32768x4, .f32⟩
  | 54 => ⟨S2x128x32768x4, .i1⟩
  | 55 => ⟨S2x128x32768x4, .i1⟩
  | 56 => ⟨S_, .i1⟩
  | 57 => ⟨S2x128x32768, .i1⟩
  | 58 => ⟨S_, .i1⟩
  | 59 => ⟨S2x32768, .i1⟩
  | 60 => ⟨S2x32768, .f32⟩
  | 61 => ⟨S2x32x32x32, .f32⟩
  | _ => ⟨S2x128x3, .f32⟩

abbrev hbmTy (i : Nat) : BufTy := match i / 128 with
  | 0 => hbmTy0_0 i
  | 1 => hbmTy0_1 i
  | _ => ⟨S2x128x3, .f32⟩

abbrev bufTy : (tb : Table) → Fin (tcTables nBuf tb) → BufTy
  | .hbm, ⟨i, _⟩ => hbmTy i
  | _, _ => ⟨S2x128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst : Ref sig .tc := ⟨.hbm, 115, rfl⟩
abbrev main_v90 : Ref sig .tc := ⟨.hbm, 116, rfl⟩
abbrev main_v91 : Ref sig .tc := ⟨.hbm, 117, rfl⟩
abbrev main_cst_0 : Ref sig .tc := ⟨.hbm, 118, rfl⟩
abbrev main_v92 : Ref sig .tc := ⟨.hbm, 119, rfl⟩
abbrev main_v93 : Ref sig .tc := ⟨.hbm, 120, rfl⟩
abbrev main_cst_1 : Ref sig .tc := ⟨.hbm, 121, rfl⟩
abbrev main_v94 : Ref sig .tc := ⟨.hbm, 122, rfl⟩
abbrev main_v95 : Ref sig .tc := ⟨.hbm, 123, rfl⟩
abbrev main_cst_2 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_3 : Ref sig .tc := ⟨.hbm, 128, rfl⟩
abbrev main_v99 : Ref sig .tc := ⟨.hbm, 129, rfl⟩
abbrev main_v100 : Ref sig .tc := ⟨.hbm, 130, rfl⟩
abbrev main_cst_4 : Ref sig .tc := ⟨.hbm, 131, rfl⟩
abbrev main_v101 : Ref sig .tc := ⟨.hbm, 132, rfl⟩
abbrev main_v102 : Ref sig .tc := ⟨.hbm, 133, rfl⟩
abbrev main_cst_5 : Ref sig .tc := ⟨.hbm, 134, rfl⟩
abbrev main_v103 : Ref sig .tc := ⟨.hbm, 135, rfl⟩
abbrev main_v104 : Ref sig .tc := ⟨.hbm, 136, rfl⟩
abbrev main_cst_6 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_7 : Ref sig .tc := ⟨.hbm, 141, rfl⟩
abbrev main_v108 : Ref sig .tc := ⟨.hbm, 142, rfl⟩
abbrev main_v109 : Ref sig .tc := ⟨.hbm, 143, rfl⟩
abbrev main_cst_8 : Ref sig .tc := ⟨.hbm, 144, rfl⟩
abbrev main_v110 : Ref sig .tc := ⟨.hbm, 145, rfl⟩
abbrev main_v111 : Ref sig .tc := ⟨.hbm, 146, rfl⟩
abbrev main_cst_9 : Ref sig .tc := ⟨.hbm, 147, rfl⟩
abbrev main_v112 : Ref sig .tc := ⟨.hbm, 148, rfl⟩
abbrev main_v113 : Ref sig .tc := ⟨.hbm, 149, rfl⟩
abbrev main_cst_10 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_11 : Ref sig .tc := ⟨.hbm, 170, rfl⟩
abbrev main_v133 : Ref sig .tc := ⟨.hbm, 171, rfl⟩
abbrev main_cst_12 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_13 : Ref sig .tc := ⟨.hbm, 177, rfl⟩
abbrev main_v138 : Ref sig .tc := ⟨.hbm, 178, rfl⟩
abbrev main_v139 : Ref sig .tc := ⟨.hbm, 179, rfl⟩
abbrev main_cst_14 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_c_15 : Ref sig .tc := ⟨.hbm, 184, rfl⟩
abbrev main_v143 : Ref sig .tc := ⟨.hbm, 185, rfl⟩
abbrev main_c_16 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩

abbrev nD : Nat := 1
abbrev τ : Topo := Topo.v7x

variable {F : FTy → Type} [FloatOps F]
-- ==== Proof.Frames.lean ====
/- The three frames of the certificate, and the reference's run with its counters. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Init

@[expose] public section

noncomputable section

namespace Cert.Proof

open Idealize.ShloMosaic Idealize.SL.Sem

/-- The reference runs, leaves its arguments unchanged, and has no semaphore to leave raised. -/
theorem reference_frame {F : FTy → Type} [FloatOps F]
    (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
      ∧ r.2.sem = fun _ => 0) :=
  (θ_run (Cert.ReferenceIdeal.defs (F := F)) _ _).mono
    (fun r h => ⟨fun c => (h c).2, sem_eq_zero_of_no_sems (by decide) r.2⟩)
    (Cert.ReferenceIdeal.Value.run (F := F) m g)

end Cert.Proof

end
-- ==== Proof.Spec.lean ====
/- The mathematics of the voxelization, naming no program: a tetrahedron's edges, adjugate and determinant, the
   numerators of a point's barycentric coordinates, the two forms of the inside test, and the occupancy map. -/
module

public import Idealize.ShloMosaic.PureOps.Ideal

@[expose] public section

noncomputable section

namespace Cert.Vox

open Idealize.ShloMosaic

/-- Coordinate `i` of the edge from vertex 3 of the tetrahedron `p` to its vertex `j`. -/
def edge (p : Fin 4 → Fin 3 → EReal) (i j : Fin 3) : EReal := p j.castSucc i - p 3 i

/-- The adjugate of the 3 × 3 matrix `t`. -/
def adj (t : Fin 3 → Fin 3 → EReal) : Fin 3 → Fin 3 → EReal :=
  ![![t 1 1 * t 2 2 - t 1 2 * t 2 1, t 0 2 * t 2 1 - t 0 1 * t 2 2, t 0 1 * t 1 2 - t 0 2 * t 1 1],
    ![t 1 2 * t 2 0 - t 1 0 * t 2 2, t 0 0 * t 2 2 - t 0 2 * t 2 0, t 0 2 * t 1 0 - t 0 0 * t 1 2],
    ![t 1 0 * t 2 1 - t 1 1 * t 2 0, t 0 1 * t 2 0 - t 0 0 * t 2 1, t 0 0 * t 1 1 - t 0 1 * t 1 0]]

/-- The determinant of the 3 × 3 matrix `t`, by its first row. -/
def det (t : Fin 3 → Fin 3 → EReal) : EReal :=
  t 0 0 * (t 1 1 * t 2 2 - t 1 2 * t 2 1) - t 0 1 * (t 1 0 * t 2 2 - t 1 2 * t 2 0)
    + t 0 2 * (t 1 0 * t 2 1 - t 1 1 * t 2 0)

/-- The numerator of barycentric coordinate `i` of the point `c` in the tetrahedron `p`: row `i` of the adjugate
    times the vector from vertex 3 to `c`. -/
def num (p : Fin 4 → Fin 3 → EReal) (c : Fin 3 → EReal) (i : Fin 3) : EReal :=
  ∑ j : Fin 3, adj (edge p) i j * (c j - p 3 j)

/-- The inside test with one reciprocal: the three coordinates `n i * (1 / D)` and one minus their sum are all at
    least zero, tested on their minimum. -/
def InsideMin (n : Fin 3 → EReal) (D : EReal) : Prop :=
  0 ≤ min (min (n 0 * Ideal.div 1 D) (n 1 * Ideal.div 1 D))
    (min (n 2 * Ideal.div 1 D) (1 - ((n 0 * Ideal.div 1 D + n 1 * Ideal.div 1 D) + n 2 * Ideal.div 1 D)))

/-- The inside test as the mathematics states it: the three quotients `n i / D` and one minus their sum all lie
    between zero and one. -/
def Inside (n : Fin 3 → EReal) (D : EReal) : Prop :=
  (∀ i : Fin 3, 0 ≤ Ideal.div (n i) D ∧ Ideal.div (n i) D ≤ 1)
    ∧ 0 ≤ 1 - ∑ i : Fin 3, Ideal.div (n i) D ∧ 1 - ∑ i : Fin 3, Ideal.div (n i) D ≤ 1

/-- From `0 ≤ 1 - s` follows `s ≤ 1`, on all extended reals. -/
theorem le_one_of_sub_nonneg {s : EReal} (h : 0 ≤ 1 - s) : s ≤ 1 := by
  induction s with
  | bot => exact bot_le
  | top => exact absurd h (by rw [sub_eq_add_neg, EReal.neg_top, EReal.add_bot]; decide)
  | coe s =>
    have h' : ((0 : ℝ) : EReal) ≤ ((1 - s : ℝ) : EReal) := by simpa using h
    have := EReal.coe_le_coe_iff.1 h'
    have h2 : ((s : ℝ) : EReal) ≤ ((1 : ℝ) : EReal) := EReal.coe_le_coe_iff.2 (by linarith)
    simpa using h2

/-- From `0 ≤ s` follows `1 - s ≤ 1`, on all extended reals. -/
theorem sub_le_one_of_nonneg {s : EReal} (h : 0 ≤ s) : 1 - s ≤ 1 := by
  have := EReal.sub_le_sub (le_refl (1 : EReal)) h
  simpa using this

/-- Three numbers that are at least zero, and one minus their sum too: each is at most one. -/
theorem bounds_of_nonneg {a b c : EReal} (ha : 0 ≤ a) (hb : 0 ≤ b) (hc : 0 ≤ c) (h : 0 ≤ 1 - ((a + b) + c)) :
    a ≤ 1 ∧ b ≤ 1 ∧ c ≤ 1 ∧ 1 - ((a + b) + c) ≤ 1 := by
  have hs := le_one_of_sub_nonneg h
  have hab : 0 ≤ a + b := add_nonneg ha hb
  refine ⟨le_trans ?_ hs, le_trans ?_ hs, le_trans ?_ hs, sub_le_one_of_nonneg (add_nonneg hab hc)⟩
  · exact le_trans (le_add_of_nonneg_right hb) (le_add_of_nonneg_right hc)
  · exact le_trans (le_add_of_nonneg_left ha) (le_add_of_nonneg_right hc)
  · exact le_add_of_nonneg_left hab

/-- The two inside tests agree unless the determinant and all three numerators are zero. -/
theorem insideMin_iff_inside (n : Fin 3 → EReal) (D : EReal) (h : D ≠ 0 ∨ ∃ i, n i ≠ 0) :
    InsideMin n D ↔ Inside n D := by
  unfold InsideMin Inside
  rw [Fin.sum_univ_three]
  simp only [Fin.forall_fin_succ, Fin.forall_fin_zero, le_min_iff, Fin.succ_zero_eq_one, Fin.succ_one_eq_two,
    IsEmpty.forall_iff, and_true]
  by_cases hD : D = 0
  · subst hD
    have hn : ∃ i, n i ≠ 0 := h.resolve_left (fun h => h rfl)
    have h1 : Ideal.div 1 0 = ⊤ := by simp [Ideal.div]
    rw [h1]
    constructor
    · rintro ⟨⟨h0, h1⟩, h2, h3⟩
      exfalso
      have key : ∀ x : EReal, 0 ≤ x * ⊤ → x * ⊤ = ⊤ ∨ x = 0 := by
        intro x hx
        rcases lt_trichotomy x 0 with hx0 | hx0 | hx0
        · rw [EReal.mul_top_of_neg hx0] at hx; exact absurd hx (by decide)
        · exact .inr hx0
        · exact .inl (EReal.mul_top_of_pos hx0)
      have hb : ¬ (0 : EReal) ≤ 1 - ⊤ := by rw [sub_eq_add_neg, EReal.neg_top, EReal.add_bot]; decide
      have hne : ∀ x : EReal, 0 ≤ x → x ≠ ⊥ := fun x hx hx' => by subst hx'; exact absurd hx (by decide)
      rcases key _ h0 with e0 | e0
      · rw [e0, EReal.top_add_of_ne_bot (hne _ h1), EReal.top_add_of_ne_bot (hne _ h2)] at h3; exact hb h3
      rcases key _ h1 with e1 | e1
      · rw [e1, EReal.add_top_of_ne_bot (hne _ h0), EReal.top_add_of_ne_bot (hne _ h2)] at h3; exact hb h3
      rcases key _ h2 with e2 | e2
      · rw [e2, EReal.add_top_of_ne_bot (hne _ (add_nonneg h0 h1))] at h3; exact hb h3
      obtain ⟨i, hi⟩ := hn
      fin_cases i
      · exact hi e0
      · exact hi e1
      · exact hi e2
    · rintro ⟨⟨⟨h0, h1⟩, -⟩, -⟩
      exfalso
      unfold Ideal.div at h0 h1
      rw [if_pos rfl] at h0 h1
      split_ifs at h0 h1
      · exact absurd h1 (by decide)
      · exact absurd h0 (by decide)
  · have hq : ∀ x : EReal, Ideal.div x D = x * Ideal.div 1 D := fun x => by
      unfold Ideal.div; rw [if_neg hD, if_neg hD, one_mul]
    rw [hq (n 0), hq (n 1), hq (n 2)]
    constructor
    · rintro ⟨⟨h0, h1⟩, h2, h3⟩
      obtain ⟨b0, b1, b2, b3⟩ := bounds_of_nonneg h0 h1 h2 h3
      exact ⟨⟨⟨h0, b0⟩, ⟨h1, b1⟩, ⟨h2, b2⟩⟩, h3, b3⟩
    · rintro ⟨⟨⟨h0, -⟩, ⟨h1, -⟩, ⟨h2, -⟩⟩, h3, -⟩
      exact ⟨⟨h0, h1⟩, h2, h3⟩

/-- The centre of voxel `i` of 32 on the interval from -1 to 1. -/
def centre (i : Fin 32) : EReal := (((2 * (i : ℝ) + 1 - 32) / 32 : ℝ) : EReal)

/-- Coordinate `j` of vertex `k` of facet `f` of batch entry `b`. -/
def vtx (vert : Fin 2 → Fin 128 → Fin 3 → EReal) (fac : Fin 2 → Fin 128 → Fin 4 → BitVec 32) (b : Fin 2) (f : Fin 128)
    (k : Fin 4) (j : Fin 3) : EReal :=
  vert b (Fin.ofNat 128 (fac b f k).toNat) j

/-- Facet `f` of batch entry `b` contains the point `c`, by the test with one reciprocal. -/
def Covers (vert : Fin 2 → Fin 128 → Fin 3 → EReal) (fac : Fin 2 → Fin 128 → Fin 4 → BitVec 32) (b : Fin 2)
    (c : Fin 3 → EReal) (f : Fin 128) : Prop :=
  InsideMin (num (vtx vert fac b f) c) (det (edge (vtx vert fac b f)))

open Classical in
/-- The occupancy of the point `c` in batch entry `b`: one if some facet contains it, else zero. -/
def occ (vert : Fin 2 → Fin 128 → Fin 3 → EReal) (fac : Fin 2 → Fin 128 → Fin 4 → BitVec 32) (b : Fin 2)
    (c : Fin 3 → EReal) : EReal :=
  if ∃ f, Covers vert fac b c f then 1 else 0

end Cert.Vox

end
-- ==== Proof.Consts.lean ====
/- The binary32 constants of the two programs, as extended reals. -/
module

public import Idealize.ShloMosaic.PureOps.Ideal

@[expose] public section

noncomputable section

namespace Cert.Vox

open Idealize.ShloMosaic

/-- The word of 2. -/
theorem word_two : Ideal.ofBits .f32 0x40000000#32 = ((2 : ℝ) : EReal) := by
  simp [Ideal.ofBits, Ideal.ieee, -EReal.coe_mul]; norm_num

/-- The word of 32. -/
theorem word_thirtytwo : Ideal.ofBits .f32 0x42000000#32 = ((32 : ℝ) : EReal) := by
  simp [Ideal.ofBits, Ideal.ieee, -EReal.coe_mul]; norm_num

/-- The word of 1/32. -/
theorem word_recip : Ideal.ofBits .f32 0x3D000000#32 = ((1 / 32 : ℝ) : EReal) := by
  simp [Ideal.ofBits, Ideal.ieee, -EReal.coe_mul]; norm_num

end Cert.Vox

end
-- ==== Proof.Masks.lean ====
/- The kernel's index blocks and selection masks at an index, and the voxel centres. -/
module

public import proofs.«01_k».proof.Proof.Gen.KernelIdeal.Skeleton
public import proofs.«01_k».proof.Proof.Spec
public import proofs.«01_k».proof.Proof.Consts
public import Idealize.ShloMosaic.Lib.Pointwise
public import Idealize.ShloMosaic.Lib.Routing.Words

@[expose] public section

set_option maxRecDepth 16384

noncomputable section

namespace Cert.Vox

open Idealize.ShloMosaic Cert.KernelIdeal Cert.KernelIdeal.Gen

/-! ## Floor division and remainder as words -/

/-- A word of a number below `2 ^ 31` is not negative. -/
theorem slt_zero {n : ℕ} (hn : n < 2 ^ 31) : IntOp.cmpi .slt (BitVec.ofNat 32 n) 0#32 = 0#1 := by
  have : (BitVec.ofNat 32 n).toInt = n := by rw [BitVec.toInt_ofNat', Int.bmod_def]; simp; omega
  have h : ¬ (n : ℤ) < 0 := by omega
  simp [IntOp.cmpi, BitVec.slt, this, h]

/-- A word of a positive number below `2 ^ 31` is positive. -/
theorem sgt_zero {n : ℕ} (h0 : 0 < n) (hn : n < 2 ^ 31) : IntOp.cmpi .sgt (BitVec.ofNat 32 n) 0#32 = 1#1 := by
  have : (BitVec.ofNat 32 n).toInt = n := by rw [BitVec.toInt_ofNat', Int.bmod_def]; simp; omega
  simp [IntOp.cmpi, BitVec.slt, this, h0]

/-- The floor quotient of two words, as the kernel writes it: the quotient, less one where the signs differ and the
    remainder is not zero. -/
theorem floordiv_word {n c : ℕ} (hn : n < 2 ^ 31) (h0 : 0 < c) (hc : c < 2 ^ 31) :
    Scalar.select
        (IntOp.andi
          (IntOp.cmpi .ne
            (IntOp.subi (BitVec.setWidth 32 (IntOp.cmpi .sgt (BitVec.ofNat 32 n) 0#32))
              (BitVec.setWidth 32 (IntOp.cmpi .slt (BitVec.ofNat 32 n) 0#32))) 1#32)
          (IntOp.cmpi .ne (IntOp.remsi .vector (BitVec.ofNat 32 n) (BitVec.ofNat 32 c)) 0#32))
        (IntOp.subi (IntOp.divsi .vector (BitVec.ofNat 32 n) (BitVec.ofNat 32 c)) 1#32)
        (IntOp.divsi .vector (BitVec.ofNat 32 n) (BitVec.ofNat 32 c))
      = BitVec.ofNat 32 (n / c) := by
  rw [Routing.divsi_word _ hn h0 hc, Routing.remsi_word _ hn h0 hc, slt_zero hn]
  rcases Nat.eq_zero_or_pos n with rfl | hp
  · rw [Nat.zero_mod]
    have : ∀ x : BitVec 1, IntOp.andi x (IntOp.cmpi .ne (BitVec.ofNat 32 0) 0#32) = 0#1 := by decide
    rw [this]; rfl
  · rw [sgt_zero hp hn]
    have : ∀ x : BitVec 1, IntOp.andi (IntOp.cmpi .ne (IntOp.subi (BitVec.setWidth 32 1#1) (BitVec.setWidth 32 0#1)) 1#32) x
      = 0#1 := by decide
    rw [this]; rfl

/-- The floor remainder of two words, as the kernel writes it: the remainder, plus the divisor where the signs differ
    and the remainder is not zero. -/
theorem floormod_word {n c : ℕ} (hn : n < 2 ^ 31) (h0 : 0 < c) (hc : c < 2 ^ 31) :
    Scalar.select
        (IntOp.andi
          (IntOp.xori (IntOp.cmpi .slt (IntOp.remsi .vector (BitVec.ofNat 32 n) (BitVec.ofNat 32 c)) 0#32) 0#1)
          (IntOp.cmpi .ne (IntOp.remsi .vector (BitVec.ofNat 32 n) (BitVec.ofNat 32 c)) 0#32))
        (IntOp.addi (IntOp.remsi .vector (BitVec.ofNat 32 n) (BitVec.ofNat 32 c)) (BitVec.ofNat 32 c))
        (IntOp.remsi .vector (BitVec.ofNat 32 n) (BitVec.ofNat 32 c))
      = BitVec.ofNat 32 (n % c) := by
  rw [Routing.remsi_word _ hn h0 hc, slt_zero (lt_of_le_of_lt (Nat.mod_le _ _) hn)]
  have : ∀ x : BitVec 1, IntOp.andi (IntOp.xori 0#1 0#1) x = 0#1 := by decide
  rw [this]; rfl

/-! ## The voxel centres -/

/-- The centre of a voxel, from the word of its coordinate as the kernel computes it. -/
theorem centre_word (i : Fin 32) :
    (Ideal.ofBits .f32 0x40000000#32 * FloatOps.sitofp (F := Ideal) FTy.f32 (BitVec.ofNat 32 (i : ℕ)) + 1
        - Ideal.ofBits .f32 0x42000000#32) * Ideal.ofBits .f32 0x3D000000#32 = centre i := by
  have h : FloatOps.sitofp (F := Ideal) FTy.f32 (BitVec.ofNat 32 (i : ℕ)) = (((i : ℕ) : ℝ) : EReal) := by
    show (((BitVec.ofNat 32 (i : ℕ)).toInt : ℝ) : EReal) = _
    have : (BitVec.ofNat 32 (i : ℕ)).toInt = ((i : ℕ) : ℤ) := by rw [BitVec.toInt_ofNat', Int.bmod_def]; simp; omega
    rw [this]; simp
  rw [word_two, word_thirtytwo, word_recip, h, centre, show (1 : EReal) = ((1 : ℝ) : EReal) from rfl, ← EReal.coe_mul,
    ← EReal.coe_add, ← EReal.coe_sub, ← EReal.coe_mul]
  congr 1
  ring

/-- The lane indices of the voxels. -/
def voxels : IVec S1x32768 32 := iota .tc S1x32768 32 [1] iota_S1x32768_d1_w32

/-- The first coordinates of the voxel centres, lane by lane. -/
def gridX : FVec Ideal S1x32768 .f32 := k0_pay56 voxels 1024#32 k0_pay53 k0_pay54 k0_pay55

/-- The second coordinates of the voxel centres. -/
def gridY : FVec Ideal S1x32768 .f32 := k0_pay59 (k0_pay57 voxels) (k0_pay58 voxels)

/-- The third coordinates of the voxel centres. -/
def gridZ : FVec Ideal S1x32768 .f32 := k0_pay63 (k0_pay60 voxels) (k0_pay61 voxels) (k0_pay62 voxels)

/-- The centre of the voxel at lane `v`. -/
def voxelCentre (v : Fin 32768) : Fin 3 → EReal :=
  ![centre ⟨(v : ℕ) / 1024, by omega⟩, centre ⟨(v : ℕ) / 32 % 32, by omega⟩, centre ⟨(v : ℕ) % 32, by omega⟩]

/-- The first coordinates are the voxels' own. -/
theorem gridX_apply (v : Fin 32768) : gridX (ix2 0 v) = voxelCentre v 0 := by
  unfold gridX voxels
  pointwise [k0_pay56, k0_pay53, k0_pay54, k0_pay55]
  have hs : Scalar.subi (Scalar.extui (Scalar.cmpi .sgt 1024#32 0#32)) (Scalar.extui (Scalar.cmpi .slt 1024#32 0#32))
    = 1#32 := by decide
  rw [hs, floordiv_word (n := v) (c := 1024) (by omega) (by decide) (by decide)]
  exact centre_word ⟨(v : ℕ) / 1024, by omega⟩

/-- The second coordinates are the voxels' own. -/
theorem gridY_apply (v : Fin 32768) : gridY (ix2 0 v) = voxelCentre v 1 := by
  unfold gridY voxels
  pointwise [k0_pay59, k0_pay58, k0_pay57]
  have hs : Scalar.subi (Scalar.extui (Scalar.cmpi .sgt 32#32 0#32)) (Scalar.extui (Scalar.cmpi .slt 32#32 0#32))
    = 1#32 := by decide
  have hd : Scalar.select (Scalar.cmpi .eq 32#32 0#32) 1#32 32#32 = 32#32 := by decide
  have hp : Scalar.cmpi .slt 32#32 0#32 = 0#1 := by decide
  rw [hs, floordiv_word (n := v) (c := 32) (by omega) (by decide) (by decide), hd, hp,
    floormod_word (n := v / 32) (c := 32) (by omega) (by decide) (by decide)]
  exact centre_word ⟨(v : ℕ) / 32 % 32, by omega⟩

/-- The third coordinates are the voxels' own. -/
theorem gridZ_apply (v : Fin 32768) : gridZ (ix2 0 v) = voxelCentre v 2 := by
  unfold gridZ voxels
  pointwise [k0_pay63, k0_pay62, k0_pay61, k0_pay60]
  have hd : Scalar.select (Scalar.cmpi .eq 32#32 0#32) 1#32 32#32 = 32#32 := by decide
  have hp : Scalar.cmpi .slt 32#32 0#32 = 0#1 := by decide
  rw [hd, hp, floormod_word (n := v) (c := 32) (by omega) (by decide) (by decide)]
  exact centre_word ⟨(v : ℕ) % 32, by omega⟩

/-! ## Rows of eight -/

/-- Each of the 64 rows modulo 8. -/
def rowMod : IVec S64x1 32 := k0_pay64 (iota .tc S64x1 32 [0] iota_S64x1_d0_w32)

/-- Each of the 64 rows divided by 8. -/
def rowDiv : IVec S64x1 32 :=
  k0_pay68 (k0_pay65 (iota .tc S64x1 32 [0] iota_S64x1_d0_w32)) (k0_pay66 (iota .tc S64x1 32 [0] iota_S64x1_d0_w32))
    (k0_pay67 (iota .tc S64x1 32 [0] iota_S64x1_d0_w32)) 0#32

/-- Row `8 * f + j` for a facet `f` of the group and a coordinate `j`. -/
def row64 (f : Fin 8) (j : Fin 3) : Fin 64 := ⟨8 * f + j, by omega⟩

/-- Row `8 f + j` has coordinate number `j`. -/
theorem rowMod_apply : ∀ (f : Fin 8) (j : Fin 3), rowMod (ix2 (row64 f j) 0) = BitVec.ofNat 32 j := by decide +kernel

/-- Row `8 f + j` has facet number `f`. -/
theorem rowDiv_apply : ∀ (f : Fin 8) (j : Fin 3), rowDiv (ix2 (row64 f j) 0) = BitVec.ofNat 32 f := by decide +kernel

/-- The voxel centres laid out in the 64 rows. -/
def grid64 : FVec Ideal S64x32768 .f32 := k0_pay69 gridX gridY gridZ rowMod

/-- Row `8 * f + j` holds coordinate `j` of the voxel centres. -/
theorem grid64_apply (f : Fin 8) (j : Fin 3) (v : Fin 32768) : grid64 (ix2 (row64 f j) v) = voxelCentre v j := by
  unfold grid64
  pointwise [k0_pay69]
  rw [rowMod_apply, gridX_apply, gridY_apply, gridZ_apply]
  fin_cases j <;> simp [IntOp.cmpi, Scalar.select]

/-- Vertex 3 of every facet laid out in the 64 rows, from the parameter block. -/
def vertex64 (p : FVec Ideal S16x256 .f32) : FVec Ideal S64x256 .f32 :=
  k0_pay74 (k0_pay71 p) (k0_pay72 p rowMod) (k0_pay73 rowMod)

/-- Row `8 * f + j` holds row `9 + j` of the parameters. -/
theorem vertex64_apply (p : FVec Ideal S16x256 .f32) (f : Fin 8) (j : Fin 3) (l : Fin 256) :
    vertex64 p (ix2 (row64 f j) l) = p (ix2 ⟨9 + j, by omega⟩ l) := by
  unfold vertex64
  pointwise [k0_pay74, k0_pay73, k0_pay72, k0_pay71, k0_pay70]
  rw [rowMod_apply]
  fin_cases j <;> simp [IntOp.cmpi, Scalar.select]

/-! ## The selection masks of the block-diagonal factor -/

/-- The three masks: mask `j` selects column `8 * f + j` in row `f`. -/
def selMask (j : Fin 3) : IVec S8x64 1 :=
  ![k0_pay77 k0_pay75 k0_pay76,
    k0_pay81 (k0_pay78 (iota .tc S8x64 32 [1] iota_S8x64_d1_w32) (iota .tc S8x64 32 [0] iota_S8x64_d0_w32))
      (k0_pay79 (iota .tc S8x64 32 [1] iota_S8x64_d1_w32)) k0_pay80,
    k0_pay82 (iota .tc S8x64 32 [1] iota_S8x64_d1_w32) (iota .tc S8x64 32 [0] iota_S8x64_d0_w32)] j

/-- The mask for coordinate `j` picks, for facet `f`, the row `8 f + j` alone. -/
theorem selMask_apply : ∀ (j : Fin 3) (f : Fin 8) (c : Fin 64),
    selMask j (ix2 f c) = BitVec.ofBool (decide (c = row64 f j)) := by decide +kernel

end Cert.Vox

end
-- ==== Proof.Params.lean ====
/- The kernel's facet parameters at an index: the one-hot product gathers a facet's vertices, and the sixteen rows hold
   the adjugate, vertex 3, the reciprocal of the determinant and zeros. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.Vox

open Idealize.ShloMosaic Cert.KernelIdeal Cert.KernelIdeal.Gen

/-- A sum over lanes of a term that is taken at one lane and zero elsewhere is the term at that lane. -/
theorem sum_onehot {n : ℕ} (hn : n ≤ 2 ^ 32) (w : BitVec 32) (hw : w.toNat < n) (f : Fin n → EReal) :
    ∑ k : Fin n, Scalar.select (IntOp.cmpi .eq (BitVec.ofNat 32 (k : ℕ)) w) (f k) 0 = f ⟨w.toNat, hw⟩ := by
  rw [Finset.sum_eq_single ⟨w.toNat, hw⟩]
  · simp [IntOp.cmpi, Scalar.select]
  · intro k _ hk
    have hne : ¬ BitVec.ofNat 32 (k : ℕ) = w := by
      intro h
      apply hk
      apply Fin.ext
      have := congrArg BitVec.toNat h
      rw [BitVec.toNat_ofNat, Nat.mod_eq_of_lt (by omega)] at this
      exact this
    have hb : (BitVec.ofNat 32 (k : ℕ) == w) = false := by simpa using hne
    simp [IntOp.cmpi, Scalar.select, hb]
  · intro h; exact absurd (Finset.mem_univ _) h

/-- A factor times the number of a comparison bit is the factor or zero. -/
theorem mul_bit (x : EReal) (b : BitVec 1) :
    x * (FloatOps.sitofp (F := Ideal) FTy.f32 (BitVec.setWidth 32 b)) = Scalar.select b x 0 := by
  rcases BitVec.eq_zero_or_eq_one b with rfl | rfl
  · have : FloatOps.sitofp (F := Ideal) FTy.f32 (BitVec.setWidth 32 0#1) = (0 : EReal) := by
      show (((BitVec.setWidth 32 0#1).toInt : ℝ) : EReal) = 0
      simp
    rw [this, mul_zero]; rfl
  · have : FloatOps.sitofp (F := Ideal) FTy.f32 (BitVec.setWidth 32 1#1) = (1 : EReal) := by
      show (((BitVec.setWidth 32 1#1).toInt : ℝ) : EReal) = 1
      have : (BitVec.setWidth 32 1#1).toInt = 1 := by decide
      rw [this]; simp
    rw [this, mul_one]; rfl

/-- The four gathered vertex blocks, one per vertex of the facet. -/
def gathered (x0 : Vec Ideal S8x512 .f32) (x1 : Vec Ideal S8x256 .i32) (k : Fin 4) : FVec Ideal S8x256 .f32 :=
  ![k0_pay35 x0 x1, k0_pay36 x0 x1, k0_pay37 x0 x1, k0_pay38 x0 x1] k

/-- A one-hot product at facet lane `l`: coordinate `j` of the padded vertices, at the vertex that the index names. -/
theorem gathered_apply (x0 : Vec Ideal S8x512 .f32) (x1 : Vec Ideal S8x256 .i32) (k : Fin 4) (j : Fin 8) (l : Fin 256)
    (h : (x1 (ix2 (k.castLE (by decide)) l)).toNat < 512) :
    gathered x0 x1 k (ix2 j l) = x0 (ix2 j ⟨(x1 (ix2 (k.castLE (by decide)) l)).toNat, h⟩) := by
  unfold gathered
  fin_cases k <;>
  · dsimp only [Matrix.cons_val, Fin.reduceFinMk]
    pointwise [k0_pay35, k0_pay36, k0_pay37, k0_pay38, k0_pay34, k0_pay33]
    simp only [mul_bit]
    exact sum_onehot (by decide) _ h _

/-- The sixteen parameters of a facet with vertices `p`. -/
def prow (p : Fin 4 → Fin 3 → EReal) : Fin 16 → EReal :=
  ![adj (edge p) 0 0, adj (edge p) 0 1, adj (edge p) 0 2, adj (edge p) 1 0, adj (edge p) 1 1, adj (edge p) 1 2,
    adj (edge p) 2 0, adj (edge p) 2 1, adj (edge p) 2 2, p 3 0, p 3 1, p 3 2, Ideal.div 1 (det (edge p)), 0, 0, 0]

/-- The parameter block of the kernel, from the padded vertices and the facets' indices. -/
def params (x0 : Vec Ideal S8x512 .f32) (x1 : Vec Ideal S8x256 .i32) : FVec Ideal S16x256 .f32 :=
  k0_pay52 (k0_pay39 x0 x1) (k0_pay40 x0 x1) (k0_pay41 x0 x1) (k0_pay42 x0 x1) (k0_pay43 x0 x1) (k0_pay44 x0 x1)
    (k0_pay45 x0 x1) (k0_pay46 x0 x1) (k0_pay47 x0 x1) (k0_pay48 x0 x1) (k0_pay49 x0 x1) (k0_pay50 x0 x1) (k0_pay51 x0 x1)

/-- Row `r` of the parameters at facet lane `l`, in terms of the gathered vertices. -/
theorem params_apply (x0 : Vec Ideal S8x512 .f32) (x1 : Vec Ideal S8x256 .i32) (r : Fin 16) (l : Fin 256) :
    params x0 x1 (ix2 r l) = prow (fun k j => gathered x0 x1 k (ix2 (j.castLE (by decide)) l)) r := by
  unfold params
  pointwise [k0_pay52]
  fin_vals r with hr
  all_goals
    simp only [hr, Nat.reduceSub, Nat.reduceLT, ↓reduceDIte]
    pointwise [k0_pay39, k0_pay40, k0_pay41, k0_pay42, k0_pay43, k0_pay44, k0_pay45, k0_pay46, k0_pay47, k0_pay48,
      k0_pay49, k0_pay50, k0_pay51]
    rw [(Fin.eq_mk_iff_val_eq (hk := by omega)).2 hr]
    rfl

end Cert.Vox

end
-- ==== Proof.Trip.lean ====
/- One group of eight facets: the kernel's trip as a function on blocks, and its value at an index. -/
module

public import proofs.«01_k».proof.Proof.Masks
public import proofs.«01_k».proof.Proof.Params

@[expose] public section

set_option maxRecDepth 16384

noncomputable section

namespace Cert.Vox

open Idealize.ShloMosaic Cert.KernelIdeal Cert.KernelIdeal.Gen

/-- The lane indices of the facets. -/
def lanes : IVec S1x256 32 := iota .tc S1x256 32 [1] iota_S1x256_d1_w32

/-- The eight rows of a group. -/
def rows8 : IVec S8x1 32 := iota .tc S8x1 32 [0] iota_S8x1_d0_w32

/-- Row `r` of the parameters `p` at the eight facet lanes from `w`, one facet per row: a masked sum over the lanes. -/
def pick (p : FVec Ideal S16x256 .f32) (w : BitVec 32) (r : ℕ) (h : S16x256.Slices ![r, 0] S1x256) : FVec Ideal S8x1 .f32 :=
  shapeCast S8x1
    (multiReduction .add [1] S8
      (select
        (cmpi .eq (broadcastTo S8x256 lanes broadcasts_S1x256_S8x256)
          (broadcastTo S8x256 (addi (broadcast S8x1 w) rows8) broadcasts_S8x1_S8x256))
        (broadcastTo S8x256 (shapeCast S1x256 (extractStridedSlice S1x256 ![r, 0] p h) shapeCasts_S1x256_S1x256)
          broadcasts_S1x256_S8x256)
        (broadcast S8x256 (Scalar.ofBits .f32 0x00000000#32)))
      0x00000000#32 reduces_S8x256_S8 (.inl rfl) rfl) shapeCasts_S8_S8x1

/-- Three columns placed by the three masks, zero elsewhere. -/
def place (t0 t1 t2 : FVec Ideal S8x1 .f32) : FVec Ideal S8x64 .f32 :=
  select (selMask 0) (broadcastTo S8x64 (shapeCast S8x1 t0 shapeCasts_S8x1_S8x1) broadcasts_S8x1_S8x64)
    (select (selMask 1) (broadcastTo S8x64 (shapeCast S8x1 t1 shapeCasts_S8x1_S8x1) broadcasts_S8x1_S8x64)
      (select (selMask 2) (broadcastTo S8x64 (shapeCast S8x1 t2 shapeCasts_S8x1_S8x1) broadcasts_S8x1_S8x64)
        (broadcast S8x64 (Scalar.ofBits .f32 0x00000000#32))))

/-- The vectors from vertex 3 of the group's facets to the voxel centres, row `8 * f + j` for facet `f`. -/
def offset64 (p : FVec Ideal S16x256 .f32) (w : BitVec 32) : FVec Ideal S64x32768 .f32 :=
  subf grid64 (broadcastTo S64x32768
    (shapeCast S64x1
      (multiReduction .add [1] S64
        (select
          (cmpi .eq (broadcastTo S64x256 lanes broadcasts_S1x256_S64x256)
            (broadcastTo S64x256 (addi (broadcast S64x1 w) rowDiv) broadcasts_S64x1_S64x256))
          (vertex64 p) (broadcast S64x256 (Scalar.ofBits .f32 0x00000000#32)))
        0x00000000#32 reduces_S64x256_S64 (.inl rfl) rfl) shapeCasts_S64_S64x1)
    broadcasts_S64x1_S64x32768)

/-- The numerators of the group's facets, row `8 * i + f` for coordinate `i` of facet `f`: the block-diagonal factor
    times the vectors. -/
def numer (p : FVec Ideal S16x256 .f32) (w : BitVec 32) : FVec Ideal S24x32768 .f32 :=
  matmul dot_S24x64_S64x32768_S24x32768_1_0_0_1_n_n none
    (concatenate S24x64 0
      [⟨S8x64, place (pick p w 0 slices_S16x256_o0_0_S1x256) (pick p w 1 slices_S16x256_o1_0_S1x256)
          (pick p w 2 slices_S16x256_o2_0_S1x256)⟩,
        ⟨S8x64, place (pick p w 3 slices_S16x256_o3_0_S1x256) (pick p w 4 slices_S16x256_o4_0_S1x256)
          (pick p w 5 slices_S16x256_o5_0_S1x256)⟩,
        ⟨S8x64, place (pick p w 6 slices_S16x256_o6_0_S1x256) (pick p w 7 slices_S16x256_o7_0_S1x256)
          (pick p w 8 slices_S16x256_o8_0_S1x256)⟩]
      concatenates_S8x64_S8x64_S8x64_S24x64_d0)
    (offset64 p w) (constant S24x32768 .f32 0x00000000#32)

/-- The group's reciprocal determinants along the voxels. -/
def recip (p : FVec Ideal S16x256 .f32) (w : BitVec 32) : FVec Ideal S8x32768 .f32 :=
  broadcastTo S8x32768 (pick p w 12 slices_S16x256_o12_0_S1x256) broadcasts_S8x1_S8x32768

/-- One trip: the accumulator with ones written where the voxel is inside the row's facet of the group. -/
def trip (p : FVec Ideal S16x256 .f32) (w : BitVec 32) (acc : FVec Ideal S8x32768 .f32) : FVec Ideal S8x32768 .f32 :=
  k0_pay84 (numer p w) (pick p w 12 slices_S16x256_o12_0_S1x256)
    (mulf (extractStridedSlice S8x32768 ![0, 0] (numer p w) slices_S24x32768_o0_0_S8x32768) (recip p w))
    (mulf (extractStridedSlice S8x32768 ![8, 0] (numer p w) slices_S24x32768_o8_0_S8x32768) (recip p w)) acc

/-- The word of the first lane of group `g` of the facets from `b`. -/
def groupWord (b : BitVec 32) (g : BitVec 32) : BitVec 32 := Scalar.addi b (Scalar.muli 8#32 g)

/-! ## Values at an index -/

/-- The lane that a group's row names. -/
theorem lane_word {w : BitVec 32} {f : ℕ} (h : w.toNat + f < 256) : (w + BitVec.ofNat 32 f).toNat = w.toNat + f := by
  rw [BitVec.toNat_add, BitVec.toNat_ofNat]; omega

/-- A masked sum takes row `r` of the parameters at the row's own lane. -/
theorem pick_apply (p : FVec Ideal S16x256 .f32) (w : BitVec 32) (r : ℕ) (hr : S16x256.Slices ![r, 0] S1x256) (hr' : r < 16)
    (f : Fin 8) (h : w.toNat + f < 256) :
    pick p w r hr (ix2 f 0) = p (ix2 ⟨r, hr'⟩ ⟨w.toNat + f, h⟩) := by
  have e := lane_word h
  unfold pick lanes rows8
  pointwise
  refine (sum_onehot (by decide) (w + BitVec.ofNat 32 f) (by omega) fun x => p (ix2 ⟨r, hr'⟩ x)).trans ?_
  simp only [e]

/-- A selection on a decided bit is a conditional. -/
theorem select_ofBool {α : Type} (P : Prop) [Decidable P] (a b : α) :
    Scalar.select (BitVec.ofBool (decide P)) a b = if P then a else b := by
  by_cases h : P <;> simp [Scalar.select, h]

/-- The placed columns at an index. -/
theorem place_apply (t0 t1 t2 : FVec Ideal S8x1 .f32) (f : Fin 8) (c : Fin 64) :
    place t0 t1 t2 (ix2 f c)
      = if c = row64 f 0 then t0 (ix2 f 0) else if c = row64 f 1 then t1 (ix2 f 0)
        else if c = row64 f 2 then t2 (ix2 f 0) else 0 := by
  unfold place
  pointwise
  rw [selMask_apply, selMask_apply, selMask_apply, select_ofBool, select_ofBool, select_ofBool]

/-- The vectors at an index. -/
theorem offset64_apply (p : FVec Ideal S16x256 .f32) (w : BitVec 32) (f : Fin 8) (j : Fin 3) (v : Fin 32768)
    (h : w.toNat + f < 256) :
    offset64 p w (ix2 (row64 f j) v) = voxelCentre v j - p (ix2 ⟨9 + j, by omega⟩ ⟨w.toNat + f, h⟩) := by
  have e := lane_word h
  unfold offset64 lanes
  pointwise
  rw [grid64_apply, rowDiv_apply]
  congr 1
  refine (sum_onehot (by decide) (w + BitVec.ofNat 32 f) (by omega) fun x => vertex64 p (ix2 (row64 f j) x)).trans ?_
  simp only [e, vertex64_apply]

/-- The three columns of a facet are different. -/
theorem row64_ne (f : Fin 8) : row64 f 0 ≠ row64 f 1 ∧ row64 f 0 ≠ row64 f 2 ∧ row64 f 1 ≠ row64 f 2 := by
  refine ⟨?_, ?_, ?_⟩ <;> · intro h; have := congrArg Fin.val h; simp [row64] at this

/-- A row of placed columns times a column: three products are left of the sixty-four. -/
theorem sum_place (t0 t1 t2 : FVec Ideal S8x1 .f32) (f : Fin 8) (d : Fin 64 → EReal) :
    ∑ c : Fin 64, place t0 t1 t2 (ix2 f c) * d c
      = ∑ j : Fin 3, (![t0, t1, t2] j) (ix2 f 0) * d (row64 f j) := by
  obtain ⟨h01, h02, h12⟩ := row64_ne f
  have hc : ∀ c : Fin 64, place t0 t1 t2 (ix2 f c) * d c
      = (if c = row64 f 0 then t0 (ix2 f 0) * d c else 0) + (if c = row64 f 1 then t1 (ix2 f 0) * d c else 0)
        + (if c = row64 f 2 then t2 (ix2 f 0) * d c else 0) := by
    intro c
    rw [place_apply]
    by_cases h0 : c = row64 f 0
    · subst h0; simp [h01, h02]
    by_cases h1 : c = row64 f 1
    · subst h1; simp [h01.symm, h12]
    by_cases h2 : c = row64 f 2
    · subst h2; simp [h02.symm, h12.symm]
    simp [h0, h1, h2]
  rw [Finset.sum_congr rfl fun c _ => hc c, Finset.sum_add_distrib, Finset.sum_add_distrib, Fin.sum_univ_three]
  simp

/-- The numerator of coordinate `i` of the facet at lane `L`, from the parameter block. -/
def laneNum (p : FVec Ideal S16x256 .f32) (L : Fin 256) (c : Fin 3 → EReal) (i : Fin 3) : EReal :=
  ∑ j : Fin 3, p (ix2 ⟨3 * i + j, by omega⟩ L) * (c j - p (ix2 ⟨9 + j, by omega⟩ L))

/-- The product's row `8 * i + f` is numerator `i` of the group's facet `f`. -/
theorem numer_apply (p : FVec Ideal S16x256 .f32) (w : BitVec 32) (i : Fin 3) (f : Fin 8) (v : Fin 32768)
    (h : w.toNat + f < 256) :
    numer p w (ix2 ⟨8 * i + f, by omega⟩ v) = laneNum p ⟨w.toNat + f, h⟩ (voxelCentre v) i := by
  unfold numer laneNum
  have a1 : ¬ 16 + (f : ℕ) < 8 := by omega
  have a2 : ¬ 16 + (f : ℕ) - 8 < 8 := by omega
  have a3 : 16 + (f : ℕ) - 8 - 8 = f := by omega
  fin_cases i
  all_goals
    pointwise
    try simp only [a1, a2, a3, ↓reduceDIte, Fin.eta]
    rw [sum_place]
    refine Finset.sum_congr rfl fun j _ => ?_
    rw [offset64_apply p w f j v h]
    congr 1
    fin_cases j <;> exact pick_apply _ _ _ _ (by decide) _ h

/-- The inside test at a voxel centre `c` of the facet at lane `L`, from the parameter block. -/
def LaneInside (p : FVec Ideal S16x256 .f32) (c : Fin 3 → EReal) (L : Fin 256) : Prop :=
  0 ≤ min (min (laneNum p L c 0 * p (ix2 12 L)) (laneNum p L c 1 * p (ix2 12 L)))
    (min (laneNum p L c 2 * p (ix2 12 L))
      (1 - ((laneNum p L c 0 * p (ix2 12 L) + laneNum p L c 1 * p (ix2 12 L)) + laneNum p L c 2 * p (ix2 12 L))))

open Classical in
/-- One trip at an index: one where the voxel is inside the row's facet, else what the accumulator held. -/
theorem trip_apply (p : FVec Ideal S16x256 .f32) (w : BitVec 32) (acc : FVec Ideal S8x32768 .f32) (f : Fin 8)
    (v : Fin 32768) (h : w.toNat + f < 256) :
    trip p w acc (ix2 f v)
      = if LaneInside p (voxelCentre v) ⟨w.toNat + f, h⟩ then 1 else acc (ix2 f v) := by
  unfold trip recip
  pointwise [k0_pay84]
  have e0 : numer p w (ix2 ⟨f, by omega⟩ v) = laneNum p ⟨w.toNat + f, h⟩ (voxelCentre v) 0 := by
    simpa using numer_apply p w 0 f v h
  have e1 : numer p w (ix2 ⟨8 + f, by omega⟩ v) = laneNum p ⟨w.toNat + f, h⟩ (voxelCentre v) 1 :=
    numer_apply p w 1 f v h
  have e2 : numer p w (ix2 ⟨16 + f, by omega⟩ v) = laneNum p ⟨w.toNat + f, h⟩ (voxelCentre v) 2 :=
    numer_apply p w 2 f v h
  rw [pick_apply p w 12 _ (by decide) f h, e0, e1, e2]
  by_cases hL : LaneInside p (voxelCentre v) ⟨w.toNat + f, h⟩
  · rw [if_pos hL]; exact if_pos hL
  · rw [if_neg hL]; exact if_neg hL

end Cert.Vox

end
-- ==== Proof.Fold.lean ====
/- The kernel's two counted loops as a fold of trips over the accumulator. -/
module

public import proofs.«01_k».proof.Proof.Trip
public import proofs.«01_k».proof.Proof.Gen.KernelIdeal.Frame
public import Idealize.ShloMosaic.Lib.VecWindow

@[expose] public section

set_option maxRecDepth 16384

noncomputable section

namespace Cert.Vox

open Idealize.ShloMosaic Idealize.ShloMosaic.TcCoe Idealize.ShloMosaic.Tactic Cert.KernelIdeal Cert.KernelIdeal.Gen

/-- The accumulator after the first `k` groups of the facets from lane `b`, from zeros. -/
def groups (p : FVec Ideal S16x256 .f32) (b : BitVec 32) : ℕ → FVec Ideal S8x32768 .f32
  | 0 => k0_pay83
  | k + 1 => trip p (groupWord b (Scf.iv 0#32 1#32 k)) (groups p b k)

section loops

variable (𝒱 : Variants) (c : Dev nD) (bd : Option 𝒱.V) (i : grid0.Coords)
  (arg1 : Memref sig .tc .vmem S8x512 .f32) (harg1 : arg1.IsWhole)
  (arg2 : Memref sig .tc .vmem S8x256 .i32) (harg2 : arg2.IsWhole)
  (arg3 : Memref sig .tc .vmem S2x32768 .f32) (harg3 : arg3.IsWhole)
  (arg4 : Memref sig .tc .vmem S8x32768 .f32) (harg4 : arg4.IsWhole)
  (p : FVec Ideal S16x256 .f32)

/-- The accumulator's whole block. -/
abbrev whole8 : Rect S8x32768 := Rect.unit ![0, 0] ![8, 32768] inb_S8x32768_S8x32768_0_0

/-- A trip of the first loop stores `trip` of what it loads. -/
theorem tripL1_eq (k : Fin k0_t1_loop.trips) (f : BufTy.Contents (Elt Ideal) arg4.view.ty) :
    tripL_k0_t1 (F := Ideal) 𝒱 c bd i arg1 harg1 arg2 harg2 arg3 harg3 arg4 harg4 p rows8 rowDiv grid64 (vertex64 p) lanes
        (selMask 0) (selMask 1) (selMask 2) k f
      = [⟨whole8, trip p (groupWord 0#32 (Scf.iv 0#32 1#32 k)) (View.readAt (Elt Ideal) arg4.view whole8.toLoadRect f)⟩] := by
  unfold tripL_k0_t1 trip_k0_t1
  dsimp only
  sl_unfold_words
  rfl

/-- A trip of the second loop likewise, its facets from lane 128. -/
theorem tripL2_eq (k : Fin k0_t2_loop.trips) (f : BufTy.Contents (Elt Ideal) arg4.view.ty) :
    tripL_k0_t2 (F := Ideal) 𝒱 c bd i arg1 harg1 arg2 harg2 arg3 harg3 arg4 harg4 p rows8 rowDiv grid64 (vertex64 p) lanes
        (selMask 0) (selMask 1) (selMask 2) k f
      = [⟨whole8, trip p (groupWord 128#32 (Scf.iv 0#32 1#32 k)) (View.readAt (Elt Ideal) arg4.view whole8.toLoadRect f)⟩] := by
  unfold tripL_k0_t2 trip_k0_t2
  dsimp only
  sl_unfold_words
  rfl

/-- What the accumulator reads after `k` trips of the first loop, entered with zeros. -/
theorem read_loop1 (G : BufTy.Contents (Elt Ideal) arg4.view.ty) (hG : arg4.view.read (Elt Ideal) G = k0_pay83 (F := Ideal)) :
    ∀ k : ℕ, k ≤ k0_t1_loop.trips → arg4.view.read (Elt Ideal) (arg4.view.writes (Elt Ideal) G
      (pb_k0_t1 (F := Ideal) 𝒱 c bd i arg1 harg1 arg2 harg2 arg3 harg3 arg4 harg4 p rows8 rowDiv grid64 (vertex64 p) lanes
        (selMask 0) (selMask 1) (selMask 2) G k)) = groups p 0#32 k
  | 0, _ => hG
  | k + 1, hk => by
    rw [pb_k0_t1_succ 𝒱 c bd i arg1 harg1 arg2 harg2 arg3 harg3 arg4 harg4 p rows8 rowDiv grid64 (vertex64 p) lanes
      (selMask 0) (selMask 1) (selMask 2) G ⟨k, hk⟩, tripL1_eq]
    refine (View.read_writes_full arg4.view G inb_S8x32768_S8x32768_0_0 _ _).trans ?_
    exact congrArg (trip p _) ((View.readAt_full arg4.view _ inb_S8x32768_S8x32768_0_0).trans
      (read_loop1 G hG k (Nat.le_of_succ_le hk)))

/-- What the accumulator reads after `k` trips of the second loop, entered with zeros. -/
theorem read_loop2 (G : BufTy.Contents (Elt Ideal) arg4.view.ty) (hG : arg4.view.read (Elt Ideal) G = k0_pay83 (F := Ideal)) :
    ∀ k : ℕ, k ≤ k0_t2_loop.trips → arg4.view.read (Elt Ideal) (arg4.view.writes (Elt Ideal) G
      (pb_k0_t2 (F := Ideal) 𝒱 c bd i arg1 harg1 arg2 harg2 arg3 harg3 arg4 harg4 p rows8 rowDiv grid64 (vertex64 p) lanes
        (selMask 0) (selMask 1) (selMask 2) G k)) = groups p 128#32 k
  | 0, _ => hG
  | k + 1, hk => by
    rw [pb_k0_t2_succ 𝒱 c bd i arg1 harg1 arg2 harg2 arg3 harg3 arg4 harg4 p rows8 rowDiv grid64 (vertex64 p) lanes
      (selMask 0) (selMask 1) (selMask 2) G ⟨k, hk⟩, tripL2_eq]
    refine (View.read_writes_full arg4.view G inb_S8x32768_S8x32768_0_0 _ _).trans ?_
    exact congrArg (trip p _) ((View.readAt_full arg4.view _ inb_S8x32768_S8x32768_0_0).trans
      (read_loop2 G hG k (Nat.le_of_succ_le hk)))

end loops

/-! ## The fold at an index -/

/-- The first lane of the `k`-th group of the facets from `b`. -/
theorem groupWord_toNat {b : BitVec 32} {k : ℕ} (hb : b.toNat ≤ 128) (hk : k ≤ 16) :
    (groupWord b (Scf.iv 0#32 1#32 k)).toNat = b.toNat + 8 * k := by
  unfold groupWord Scf.iv Scalar.addi Scalar.muli IntOp.addi IntOp.muli
  simp only [BitVec.toNat_add, BitVec.toNat_mul, BitVec.toNat_ofNat]
  omega

open Classical in
/-- Row `f` of the accumulator after `k` groups: one where the voxel is inside one of the row's facets so far. -/
theorem groups_apply (p : FVec Ideal S16x256 .f32) (b : BitVec 32) (hb : b.toNat ≤ 128) (f : Fin 8) (v : Fin 32768) :
    ∀ k : ℕ, k ≤ 16 → groups p b k (ix2 f v)
      = if ∃ L : Fin 256, b.toNat ≤ L ∧ L < b.toNat + 8 * k ∧ (L - b.toNat) % 8 = f ∧ LaneInside p (voxelCentre v) L
        then 1 else 0
  | 0, _ => by
    rw [if_neg (by rintro ⟨L, h1, h2, -⟩; omega)]
    unfold groups
    pointwise [k0_pay83]
  | k + 1, hk => by
    have hw := groupWord_toNat hb (Nat.le_of_succ_le hk)
    have hL : (groupWord b (Scf.iv 0#32 1#32 k)).toNat + f < 256 := by omega
    unfold groups
    rw [trip_apply _ _ _ f v hL, groups_apply p b hb f v k (Nat.le_of_succ_le hk)]
    by_cases h1 : LaneInside p (voxelCentre v) ⟨(groupWord b (Scf.iv 0#32 1#32 k)).toNat + f, hL⟩
    · rw [if_pos h1, if_pos ⟨_, by simp only; omega, by simp only; omega, by simp only; omega, h1⟩]
    · rw [if_neg h1]
      refine if_congr ⟨?_, ?_⟩ rfl rfl
      · rintro ⟨L, a1, a2, a3, a4⟩
        exact ⟨L, a1, by omega, a3, a4⟩
      · rintro ⟨L, a1, a2, a3, a4⟩
        refine ⟨L, a1, ?_, a3, a4⟩
        by_contra hlt
        refine h1 ?_
        have : L = ⟨(groupWord b (Scf.iv 0#32 1#32 k)).toNat + f, hL⟩ := Fin.ext (by simp only; omega)
        exact this ▸ a4

/-- The largest of eight values, in the kernel's order, is one as soon as one of them is. -/
theorem max8_bits (q : Fin 8 → Prop) [∀ f, Decidable (q f)] [Decidable (∃ f, q f)] (a : Fin 8 → EReal)
    (ha : ∀ f, a f = if q f then 1 else 0) :
    max (max (max (a 0) (a 4)) (max (a 2) (a 6))) (max (max (a 1) (a 5)) (max (a 3) (a 7)))
      = if ∃ f, q f then 1 else 0 := by
  by_cases h : ∃ f, q f
  · rw [if_pos h]
    obtain ⟨f, hf⟩ := h
    refine le_antisymm ?_ ?_
    · simp only [max_le_iff, ha]
      refine ⟨⟨⟨?_, ?_⟩, ?_, ?_⟩, ⟨?_, ?_⟩, ?_, ?_⟩ <;> split_ifs <;> simp
    · have h1 : a f = 1 := by rw [ha, if_pos hf]
      rw [← h1]
      fin_cases f <;> simp [le_max_iff]
  · rw [if_neg h]
    have h0 : ∀ f, a f = 0 := fun f => by rw [ha, if_neg fun hf => h ⟨f, hf⟩]
    simp [h0]

open Classical in
/-- The largest of the accumulator's eight rows after all sixteen groups: one where the voxel is inside one of the 128
    facets from `b`. -/
theorem groups_max (p : FVec Ideal S16x256 .f32) (b : BitVec 32) (hb : b.toNat ≤ 128) (v : Fin 32768) :
    max (max (max (groups p b 16 (ix2 0 v)) (groups p b 16 (ix2 4 v)))
        (max (groups p b 16 (ix2 2 v)) (groups p b 16 (ix2 6 v))))
      (max (max (groups p b 16 (ix2 1 v)) (groups p b 16 (ix2 5 v)))
        (max (groups p b 16 (ix2 3 v)) (groups p b 16 (ix2 7 v))))
      = if ∃ L : Fin 256, b.toNat ≤ L ∧ L < b.toNat + 128 ∧ LaneInside p (voxelCentre v) L then 1 else 0 := by
  refine (max8_bits _ (fun f => groups p b 16 (ix2 f v)) fun f => groups_apply p b hb f v 16 le_rfl).trans ?_
  refine if_congr ⟨?_, ?_⟩ rfl rfl
  · rintro ⟨f, L, h1, h2, h3, h4⟩
    exact ⟨L, h1, by omega, h4⟩
  · rintro ⟨L, h1, h2, h4⟩
    exact ⟨⟨(L - b.toNat) % 8, by omega⟩, L, h1, by omega, rfl, h4⟩

/-! ## The block that one run leaves -/

section block

variable (c : Dev nD) (i : grid0.Coords)
  (arg1 : Memref sig .tc .vmem S8x512 .f32) (harg1 : arg1.IsWhole)
  (arg2 : Memref sig .tc .vmem S8x256 .i32) (harg2 : arg2.IsWhole)
  (arg3 : Memref sig .tc .vmem S2x32768 .f32) (harg3 : arg3.IsWhole)
  (arg4 : Memref sig .tc .vmem S8x32768 .f32) (harg4 : arg4.IsWhole)

/-- The accumulator as loaded after the first loop. -/
theorem final1 (p : FVec Ideal S16x256 .f32) :
    arg4.view.readCov (Val := Elt Ideal)
      (pb_k0_t1 (F := Ideal) Variants.none c none i arg1 harg1 arg2 harg2 arg3 harg3 arg4 harg4 p rows8 rowDiv grid64
          (vertex64 p) lanes (selMask 0) (selMask 1) (selMask 2)
          (arg4.view.writes (Elt Ideal) arg4.view.junk [⟨whole8, k0_pay83 (F := Ideal)⟩])
          (Scf.trips k0_t1_loop.lb k0_t1_loop.ub k0_t1_loop.st)
        ++ [⟨whole8, k0_pay83 (F := Ideal)⟩]) whole8.toLoadRect
      = groups p 0#32 16 := by
  have ht : Scf.trips k0_t1_loop.lb k0_t1_loop.ub k0_t1_loop.st = 16 := by decide
  rw [ht]
  refine (View.readAt_full arg4.view _ inb_S8x32768_S8x32768_0_0).trans ?_
  rw [View.writes_append]
  exact read_loop1 Variants.none c none i arg1 harg1 arg2 harg2 arg3 harg3 arg4 harg4 p _
    (View.read_writes_full arg4.view _ inb_S8x32768_S8x32768_0_0 _ _) 16 (by decide)

/-- The accumulator as loaded after the second loop, whatever was stored before its zeros. -/
theorem final2 (p : FVec Ideal S16x256 .f32) (L : List (View.Piece (Elt Ideal) S8x32768 .f32)) :
    arg4.view.readCov (Val := Elt Ideal)
      (pb_k0_t2 (F := Ideal) Variants.none c none i arg1 harg1 arg2 harg2 arg3 harg3 arg4 harg4 p rows8 rowDiv grid64
          (vertex64 p) lanes (selMask 0) (selMask 1) (selMask 2)
          (arg4.view.writes (Elt Ideal) arg4.view.junk (⟨whole8, k0_pay86 (F := Ideal)⟩ :: L))
          (Scf.trips k0_t2_loop.lb k0_t2_loop.ub k0_t2_loop.st)
        ++ ⟨whole8, k0_pay86 (F := Ideal)⟩ :: L) whole8.toLoadRect
      = groups p 128#32 16 := by
  have ht : Scf.trips k0_t2_loop.lb k0_t2_loop.ub k0_t2_loop.st = 16 := by decide
  rw [ht]
  refine (View.readAt_full arg4.view _ inb_S8x32768_S8x32768_0_0).trans ?_
  rw [View.writes_append]
  exact read_loop2 Variants.none c none i arg1 harg1 arg2 harg2 arg3 harg3 arg4 harg4 p _
    (View.read_writes_full arg4.view _ inb_S8x32768_S8x32768_0_0 _ _) 16 (by decide)

/-- The first operand as loaded is the block. -/
theorem load1 (x0 : Vec Ideal S8x512 .f32) :
    View.readAt (Elt Ideal) arg1.view (Rect.unit ![0, 0] ![8, 512] inb_S8x512_S8x512_0_0).toLoadRect (harg1.unread x0) = x0 :=
  (View.readAt_full arg1.view _ _).trans (harg1.read_unread x0)

/-- The second operand as loaded is the block. -/
theorem load2 (x1 : Vec Ideal S8x256 .i32) :
    View.readAt (Elt Ideal) arg2.view (Rect.unit ![0, 0] ![8, 256] inb_S8x256_S8x256_0_0).toLoadRect (harg2.unread x1) = x1 :=
  (View.readAt_full arg2.view _ _).trans (harg2.read_unread x1)

/-- The parameter block of the run is `params` of the two operands. -/
theorem run_params (x0 : Vec Ideal S8x512 .f32) (x1 : Vec Ideal S8x256 .i32) :
    kernelRun0_A.sl.r_13 c arg1 harg1 arg2 harg2 x0 x1 = params x0 x1 := by
  sl_unfold_words
  simp only [load1, load2]
  rfl

/-- The placed vertices of the run likewise. -/
theorem run_vertex (x0 : Vec Ideal S8x512 .f32) (x1 : Vec Ideal S8x256 .i32) :
    kernelRun0_A.sl.r_21 c arg1 harg1 arg2 harg2 x0 x1 = vertex64 (params x0 x1) := by
  rw [← run_params c arg1 harg1 arg2 harg2]; rfl

/-- The accumulator that the first batch's row is taken from. -/
theorem run_acc1 (x0 : Vec Ideal S8x512 .f32) (x1 : Vec Ideal S8x256 .i32) :
    kernelRun0_A.sl.v433 c i arg1 harg1 arg2 harg2 arg3 harg3 arg4 harg4 x0 x1 = groups (params x0 x1) 0#32 16 := by
  unfold kernelRun0_A.sl.v433
  rw [run_params, run_vertex]
  exact final1 c i arg1 harg1 arg2 harg2 arg3 harg3 arg4 harg4 (params x0 x1)

/-- The accumulator that the second batch's row is taken from. -/
theorem run_acc2 (x0 : Vec Ideal S8x512 .f32) (x1 : Vec Ideal S8x256 .i32) :
    kernelRun0_A.sl.v449 c i arg1 harg1 arg2 harg2 arg3 harg3 arg4 harg4 x0 x1 = groups (params x0 x1) 128#32 16 := by
  unfold kernelRun0_A.sl.v449
  rw [run_params, run_vertex]
  exact final2 c i arg1 harg1 arg2 harg2 arg3 harg3 arg4 harg4 (params x0 x1) _

open Classical in
/-- The result block at batch `b` and voxel `v`: one where the voxel is inside one of the batch's 128 facets. -/
theorem out_apply (x0 : Vec Ideal S8x512 .f32) (x1 : Vec Ideal S8x256 .i32) (b : Fin 2) (v : Fin 32768) :
    out0_A_2 (F := Ideal) c i arg1 harg1 arg2 harg2 arg3 harg3 arg4 harg4 x0 x1 (ix2 b v)
      = if ∃ L : Fin 256, 128 * (b : ℕ) ≤ L ∧ L < 128 * (b : ℕ) + 128 ∧ LaneInside (params x0 x1) (voxelCentre v) L
        then 1 else 0 := by
  unfold out0_A_2 kernelRun0_A
  dsimp only
  rw [run_acc1, run_acc2]
  obtain rfl | rfl : b = 0 ∨ b = 1 := by omega
  · refine (View.read_writes_cons_unit_of_not_mem VO0_2 _ _ _ _ _ rfl 0 (.inl (Nat.zero_lt_one))).trans ?_
    refine (View.read_writes_cons_unit_of_mem VO0_2 _ _ _ _ _ (ix2 0 v) rfl ?_).trans ?_
    · intro a; fin_cases a
      · rfl
      · exact (Nat.zero_add _).symm
    refine Eq.trans ?_ (groups_max (params x0 x1) 0#32 (by decide) v)
    pointwise [k0_pay85]
  · refine (View.read_writes_cons_unit_of_mem VO0_2 _ _ _ _ _ (ix2 0 v) rfl ?_).trans ?_
    · intro a; fin_cases a
      · rfl
      · exact (Nat.zero_add _).symm
    refine Eq.trans ?_ (groups_max (params x0 x1) 128#32 (by decide) v)
    pointwise [k0_pay88]

end block

end Cert.Vox

end
-- ==== Proof.Entry.lean ====
/- What the kernel's two operands hold when the launch begins, and what its result array holds at the end. -/
module

public import proofs.«01_k».proof.Proof.Fold
public import proofs.«01_k».proof.Proof.Spec
public import Idealize.ShloMosaic.Lib.Pipeline.ValueKit
public import Idealize.ShloMosaic.Lib.Claim

@[expose] public section

set_option maxRecDepth 16384

noncomputable section

namespace Cert.Vox

open Idealize.SL.Sem Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- The host's first operand, from the vertices: rows of coordinates, both batches' vertices along the columns. -/
def hostVt (x : Vec Ideal S2x128x3 .f32) : Vec Ideal S8x512 .f32 :=
  pad S8x512 ![0, 0] ![5, 256] ![0, 0]
    (transpose S3x256 [1, 0] (shapeCast S256x3 x shapeCasts_S2x128x3_S256x3) transposes_S256x3_S3x256_1_0)
    (sitofp (F := Ideal) .f32 (constantI S_ 32 0#32)) pads_S3x256_S8x512_050_02560 h_S_

/-- The facets' vertex indices, each batch's raised to where its vertices stand, four rows per batch. -/
def hostRaised (x : Vec Ideal S2x128x4 .i32) : Vec Ideal S2x4x128 .i32 :=
  transpose S2x4x128 [0, 2, 1]
    (addi (show IVec S2x128x4 32 from x)
      (broadcastInDim S2x128x4 ![0, 1, 2] bcast_S2x1x1_S2x128x4_0_1_2
        (broadcastInDim S2x1x1 ![0] bcast_S2_S2x1x1_0
          (muli (iotaInDim S2 32 0) (broadcastInDim S2 ![] bcast_S_S2 (constantI S_ 32 128#32))))))
    transposes_S2x128x4_S2x4x128_0_2_1

/-- The host's second operand, from the facets: the two batches' raised indices side by side. -/
def hostFidx (x : Vec Ideal S2x128x4 .i32) : Vec Ideal S8x256 .i32 :=
  pad S8x256 ![0, 0] ![4, 0] ![0, 0]
    (concatenate S4x256 1
      [⟨S4x128, shapeCast S4x128 (extractStridedSlice S1x4x128 ![0, 0, 0] (hostRaised x) slices_S2x4x128_S1x4x128_0_0_0)
          shapeCasts_S1x4x128_S4x128⟩,
        ⟨S4x128, shapeCast S4x128 (extractStridedSlice S1x4x128 ![1, 0, 0] (hostRaised x) slices_S2x4x128_S1x4x128_1_0_0)
          shapeCasts_S1x4x128_S4x128⟩]
      concatenates_S4x128_S4x128_S4x256_d1)
    (constantI S_ 32 0#32) pads_S4x256_S8x256_040_000 h_S_

/-- The launch begins with the first operand at `hostVt` of the vertices, -/
theorem entry_vt : V m c main_call0_v2 = hostVt (m ((c : Thread nD τ).loc main_arg0)) := by
  have e : V m c main_call0_v2 = StableHlo.after hostOps0 (fun b => m (c, b)) (Proc.devRef .tc main_call0_v2) := rfl
  rw [e]
  after_results
  rfl

/-- and the second at `hostFidx` of the facets. -/
theorem entry_fidx : V m c main_call0_v15 = hostFidx (m ((c : Thread nD τ).loc main_arg1)) := by
  have e : V m c main_call0_v15 = StableHlo.after hostOps0 (fun b => m (c, b)) (Proc.devRef .tc main_call0_v15) := rfl
  rw [e]
  after_results
  rfl

/-- The first operand at an index: column `k = 128 * b + i` holds vertex `i` of batch `b`. -/
theorem hostVt_apply (x : Vec Ideal S2x128x3 .f32) (j : Fin 3) (k : Fin 256) (b : Fin 2) (i : Fin 128)
    (hk : (k : ℕ) = 128 * b + i) :
    hostVt x (ix2 ⟨j, by omega⟩ ⟨k, by omega⟩) = x (ix3 b i j) := by
  unfold hostVt
  pointwise
  have hb : (⟨k / 128, by omega⟩ : Fin 2) = b := Fin.ext (by simp only; omega)
  have hi : (⟨k % 128, by omega⟩ : Fin 128) = i := Fin.ext (by simp only; omega)
  rw [hb, hi]

/-- The second operand at an index: lane `l = 128 * b + i` holds facet `i` of batch `b`. -/
theorem hostFidx_apply (x : Vec Ideal S2x128x4 .i32) (k : Fin 4) (l : Fin 256) (b : Fin 2) (i : Fin 128)
    (hl : (l : ℕ) = 128 * b + i) :
    (show BitVec 32 from hostFidx x (ix2 ⟨k, by omega⟩ l))
      = (show BitVec 32 from x (ix3 b i k)) + BitVec.ofNat 32 (128 * b) := by
  unfold hostFidx hostRaised
  pointwise
  obtain rfl | rfl : b = 0 ∨ b = 1 := by omega
  · have h : (l : ℕ) < 128 := by rw [hl]; exact (Nat.zero_add _).symm ▸ i.isLt
    have hi : (⟨l, h⟩ : Fin 128) = i := Fin.ext (hl.trans (Nat.zero_add _))
    rw [dif_pos h, hi]
    rfl
  · have h : ¬ (l : ℕ) < 128 := by rw [hl]; exact Nat.not_lt.mpr (Nat.le_add_right _ _)
    have hi : (⟨l - 128, by omega⟩ : Fin 128) = i := Fin.ext (Nat.sub_eq_of_eq_add' hl)
    rw [dif_neg h, hi]
    rfl

/-- The one block of the first operand is the whole operand, -/
theorem block_vt : iblk m c 0 t0_0 = V m c main_call0_v2 := by
  funext j
  blk_ext [iblk]
  all_goals first | exact (congrArg (· + _) (by decide +kernel)).trans (Nat.zero_add _)

/-- and the one block of the second likewise. -/
theorem block_fidx : iblk m c 1 t0_0 = V m c main_call0_v15 := by
  funext j
  blk_ext [iblk]
  all_goals first | exact (congrArg (· + _) (by decide +kernel)).trans (Nat.zero_add _)

/-- The result array after the launch is the block that the one run leaves. -/
theorem result_eq : (dats m 0 c).arrAt 2 cfg0.N = outsAt0 m c t0_0 := by
  refine (dats m 0 c).arrAt_eq_of_after_last 2 t0_0 (by decide +kernel) _ fun j => ?_
  blk_simp
  rw [after0_2]

/-- What the result holds at the end: the launch's result array in the result's shape. -/
theorem tail_eq : Pipeline.afterTail₀ cfgs (dats m) 0 (V0 m) [hostOps1] c main_v0
    = shapeCast S2x32x32x32 (show Vec Ideal S2x32768 .f32 from (dats m 0 c).arrAt 2 cfg0.N) shapeCasts_S2x32768_S2x32x32x32 := by
  have e : Pipeline.afterTail₀ cfgs (dats m) 0 (V0 m) [hostOps1] c main_v0
      = StableHlo.after hostOps1 (Pipeline.withArrays spec0 c (V0 m c) fun w => (dats m 0 c).arrAt w cfg0.N)
          (Proc.devRef .tc main_v0) := rfl
  rw [e]
  after_results
  have e2 := Pipeline.withArrays_arr spec0 (by decide) c (V0 m c) (fun w => (dats m 0 c).arrAt w cfg0.N) 2
  exact congrArg (fun a : Vec Ideal S2x32768 .f32 => shapeCast S2x32x32x32 a shapeCasts_S2x32768_S2x32x32x32) e2

/-- The idealized kernel run: its result is the block that the one run leaves, in the result's shape. -/
theorem kernel_run (g : Dev nD → PrngReg) :
    θ_run defs (onTc (τ := τ) (main (F := Ideal))) ⟨m, fun _ => 0, g⟩ (fun r => ∀ c : Dev nD,
      r.2.mem ((c : Thread nD τ).loc main_v0)
          = shapeCast S2x32x32x32 (show Vec Ideal S2x32768 .f32 from outsAt0 m c t0_0) shapeCasts_S2x32768_S2x32x32x32
        ∧ r.2.mem ((c : Thread nD τ).loc main_arg0) = m ((c : Thread nD τ).loc main_arg0)
        ∧ r.2.mem ((c : Thread nD τ).loc main_arg1) = m ((c : Thread nD τ).loc main_arg1)) :=
  (θ_run defs _ _).mono
    (fun _ h c => ⟨((h.1 c).2 main_v0 (Pipeline.mem_restRefs_of main_v0 (by decide) (by decide))).trans
      ((tail_eq m c).trans (by rw [result_eq])), h.2 c⟩)
    (θ_run_and (run_main m g) (unchanged m g))

end Cert.Vox

end
-- ==== Proof.KernelValue.lean ====
/- The idealized kernel's result is the occupancy map, for facets whose indices are in range. -/
module

public import proofs.«01_k».proof.Proof.Entry

@[expose] public section

set_option maxRecDepth 16384

noncomputable section

namespace Cert.Vox

open Idealize.SL.Sem Idealize.ShloMosaic Idealize.ShloMosaic.TcCoe Idealize.ShloMosaic.Tactic Cert.KernelIdeal Cert.KernelIdeal.Gen

/-- A vertex array by batch entry, vertex and coordinate. -/
def vertOf (x : Vec Ideal S2x128x3 .f32) (b : Fin 2) (i : Fin 128) (j : Fin 3) : EReal := x (ix3 b i j)

/-- A facet array by batch entry, facet and vertex. -/
def facOf (x : Vec Ideal S2x128x4 .i32) (b : Fin 2) (f : Fin 128) (k : Fin 4) : BitVec 32 := x (ix3 b f k)

/-- Every vertex index is one of 128. -/
def InRange (fac : Fin 2 → Fin 128 → Fin 4 → BitVec 32) : Prop := ∀ b f k, (fac b f k).toNat < 128

/-- The vertices gathered at lane `128 * b + f` are those of facet `f` of batch entry `b`. -/
theorem gathered_vtx (x : Vec Ideal S2x128x3 .f32) (y : Vec Ideal S2x128x4 .i32) (hy : InRange (facOf y)) (b : Fin 2)
    (f : Fin 128) (l : Fin 256) (hl : (l : ℕ) = 128 * b + f) (k : Fin 4) (j : Fin 3) :
    gathered (hostVt x) (hostFidx y) k (ix2 (j.castLE (by decide)) l) = vtx (vertOf x) (facOf y) b f k j := by
  have h1 : (facOf y b f k).toNat < 128 := hy b f k
  have e : (hostFidx y (ix2 (k.castLE (by decide)) l) : BitVec 32) = facOf y b f k + BitVec.ofNat 32 (128 * b) :=
    hostFidx_apply y k l b f hl
  have en : (hostFidx y (ix2 (k.castLE (by decide)) l) : BitVec 32).toNat = 128 * b + (facOf y b f k).toNat := by
    rw [e, BitVec.toNat_add, BitVec.toNat_ofNat]; omega
  rw [gathered_apply _ _ _ _ _ (by rw [en]; omega)]
  have e3 := hostVt_apply x j ⟨(hostFidx y (ix2 (k.castLE (by decide)) l) : BitVec 32).toNat, by rw [en]; omega⟩ b
    ⟨(facOf y b f k).toNat, h1⟩ en
  refine e3.trans ?_
  unfold vtx vertOf
  congr 2
  exact Fin.ext (Nat.mod_eq_of_lt h1).symm

/-- The kernel's inside test at that lane is the facet's. -/
theorem laneInside_iff (x : Vec Ideal S2x128x3 .f32) (y : Vec Ideal S2x128x4 .i32) (hy : InRange (facOf y)) (b : Fin 2)
    (f : Fin 128) (l : Fin 256) (hl : (l : ℕ) = 128 * b + f) (c : Fin 3 → EReal) :
    LaneInside (params (hostVt x) (hostFidx y)) c l ↔ Covers (vertOf x) (facOf y) b c f := by
  have hp : ∀ r, params (hostVt x) (hostFidx y) (ix2 r l) = prow (vtx (vertOf x) (facOf y) b f) r := fun r => by
    rw [params_apply]
    exact congrArg (prow · r) (funext fun k => funext fun j => gathered_vtx x y hy b f l hl k j)
  have hn : ∀ i, laneNum (params (hostVt x) (hostFidx y)) l c i = num (vtx (vertOf x) (facOf y) b f) c i := fun i => by
    unfold laneNum num
    refine Finset.sum_congr rfl fun j _ => ?_
    rw [hp, hp]
    fin_cases i <;> fin_cases j <;> rfl
  unfold LaneInside Covers InsideMin
  rw [hn, hn, hn, hp]
  exact Iff.rfl

/-- The idealized kernel run: every voxel of every batch entry holds its occupancy. -/
theorem kernel_value (m : (ℓ : Loc nD τ sig) → Buf (Elt Ideal) ℓ) (c : Dev nD)
    (hy : InRange (facOf (m ((c : Thread nD τ).loc main_arg1)))) (b : Fin 2) (v : Fin 32768) :
    (show Vec Ideal S2x32768 .f32 from outsAt0 m c t0_0) (ix2 b v)
      = occ (vertOf (m ((c : Thread nD τ).loc main_arg0))) (facOf (m ((c : Thread nD τ).loc main_arg1))) b (voxelCentre v) := by
  show outsAt0 m c t0_0 (ix2 b v) = _
  unfold outsAt0
  rw [out_apply, block_vt, block_fidx, entry_vt, entry_fidx]
  unfold occ
  by_cases h : ∃ f, Covers (vertOf (m ((c : Thread nD τ).loc main_arg0))) (facOf (m ((c : Thread nD τ).loc main_arg1))) b
      (voxelCentre v) f
  · rw [if_pos h]
    obtain ⟨f, hf⟩ := h
    exact if_pos ⟨⟨128 * b + f, by omega⟩, by simp only; omega, by simp only; omega, (laneInside_iff _ _ hy b f _ rfl _).2 hf⟩
  · rw [if_neg h]
    refine if_neg fun ⟨L, h1, h2, h3⟩ => h ?_
    exact ⟨⟨L - 128 * b, by omega⟩, (laneInside_iff _ _ hy b ⟨L - 128 * b, by omega⟩ L (by simp only; omega) _).1 h3⟩

end Cert.Vox

end
-- ==== Proof.Gather.lean ====
/- The reference's gather of the facets' vertices, read at an index. -/
module

public import proofs.«01_k».proof.Proof.KernelValue
public import proofs.«01_k».proof.Proof.Gen.ReferenceIdeal.Read
public import Idealize.ShloMosaic.Lib.Pointwise
public import Idealize.ShloMosaic.Lib.ReduceAll

@[expose] public section

set_option maxRecDepth 16384

noncomputable section

namespace Cert.Vox.Ref

open Idealize.ShloMosaic Idealize.ShloMosaic.Tactic Cert.ReferenceIdeal Cert.ReferenceIdeal.Read

/-- Where the start index is a row number, the gather's element is that row's. -/
theorem gather_at (x : Vec Ideal S256x3 .f32) (idx : IVec S2x128x4x1 32) (b : Fin 2) (f : Fin 128) (k : Fin 4) (j : Fin 3)
    (r : Fin 256) (hr : idx (ix4 b f k 0) = BitVec.ofNat 32 r) :
    Host.gather gather_S256x3_S2x128x4x1_S2x128x4x3_3_0_n_n_0_3_13 x idx (ix4 b f k j) = x (ix2 r j) := by
  unfold Host.gather
  refine congrArg x (funext fun a => Fin.ext ?_)
  match a with
  | ⟨0, _⟩ =>
    show GatherDims.start _ (ix4 b f k j) idx 0 + GatherDims.batchCoord _ (ix4 b f k j) 0
      + GatherDims.offCoord _ (ix4 b f k j) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x3_S2x128x4x1_S2x128x4x3_3_0_n_n_0_3_13.startIndexMap from List.mem_singleton.mpr rfl)]
    have hsi : gather_S256x3_S2x128x4x1_S2x128x4x3_3_0_n_n_0_3_13.siIdx (ix4 b f k j)
        ⟨List.idxOf (0 : Fin 2) gather_S256x3_S2x128x4x1_S2x128x4x3_3_0_n_n_0_3_13.startIndexMap,
          List.idxOf_lt_length_iff.2 (List.mem_singleton.mpr rfl)⟩ = ix4 b f k 0 := by
      funext c
      refine Fin.ext ?_
      match c with
      | ⟨0, _⟩ => rfl
      | ⟨1, _⟩ => rfl
      | ⟨2, _⟩ => rfl
      | ⟨3, _⟩ => rfl
    rw [hsi, hr]
    have h : ((BitVec.ofNat 32 (r : ℕ)).toInt : ℤ) = (r : ℕ) := by
      rw [BitVec.toInt_ofNat', Int.bmod_def]; have := r.isLt; split <;> omega
    rw [h]
    show min ((r : ℕ) : ℤ).toNat (256 - 1) = r
    have := r.isLt
    omega
  | ⟨1, _⟩ =>
    show GatherDims.start _ (ix4 b f k j) idx 1 + GatherDims.batchCoord _ (ix4 b f k j) 1
      + GatherDims.offCoord _ (ix4 b f k j) 1 = j.val
    rw [GatherDims.batchCoord_eq_zero _ _ _ List.not_mem_nil]
    unfold GatherDims.start GatherDims.offCoord
    rw [dif_neg (show (1 : Fin 2) ∉ gather_S256x3_S2x128x4x1_S2x128x4x3_3_0_n_n_0_3_13.startIndexMap by
        show (1 : Fin 2) ∉ [0]; decide),
      dif_pos (show (1 : Fin 2) ∈ gather_S256x3_S2x128x4x1_S2x128x4x3_3_0_n_n_0_3_13.sKept from
        (GatherDims.mem_sKept _ _).2 ⟨by show (1 : Fin 2) ∉ [0]; decide, List.not_mem_nil⟩)]
    rw [Nat.add_zero, Nat.zero_add]
    rfl

/-- A fold of bits by «and» is 1 exactly when every one of them is. -/
theorem fold_all {ι : Type} (s : Finset ι) (p : ι → BitVec 1) :
    Finset.fold IntOp.andi (1#1) p s = 1#1 ↔ ∀ x ∈ s, p x = 1#1 := by
  classical
  induction s using Finset.induction_on with
  | empty => simp
  | insert a s ha ih => rw [Finset.fold_insert ha, IntOp.andi_eq_one, ih, Finset.forall_mem_insert]

/-- A word below 256 is in bounds as a signed word. -/
theorem small_word (n : ℕ) (hn : n < 256) : IntOp.cmpi .sge (BitVec.ofNat 32 n) 0#32 = 1#1
    ∧ IntOp.cmpi .sle (BitVec.ofNat 32 n) 255#32 = 1#1 ∧ IntOp.cmpi .slt (BitVec.ofNat 32 n) 0#32 = 0#1 := by
  have h : ((BitVec.ofNat 32 n).toInt : ℤ) = n := by rw [BitVec.toInt_ofNat', Int.bmod_def]; split <;> omega
  have h0 : ((0#32 : BitVec 32).toInt : ℤ) = 0 := by decide
  have h2 : ((255#32 : BitVec 32).toInt : ℤ) = 255 := by decide
  refine ⟨?_, ?_, ?_⟩
  · show BitVec.ofBool ((0#32 : BitVec 32).sle (BitVec.ofNat 32 n)) = _
    rw [BitVec.sle_eq_decide, h, h0, decide_eq_true (by omega)]; rfl
  · show BitVec.ofBool ((BitVec.ofNat 32 n).sle 255#32) = _
    rw [BitVec.sle_eq_decide, h, h2, decide_eq_true (by omega)]; rfl
  · show BitVec.ofBool ((BitVec.ofNat 32 n).slt 0#32) = _
    rw [BitVec.slt_eq_decide, h, h0, decide_eq_false (by omega)]; rfl

/-- The row number the reference looks up: the facet's vertex in its batch entry's rows. -/
theorem v5_at (x1 : Vec Ideal S2x128x4 .i32) (hy : InRange (facOf x1)) (b : Fin 2) (f : Fin 128) (k : Fin 4) :
    val_main_v5 (F := Ideal) x1 (ix3 b f k) = BitVec.ofNat 32 (128 * b + (facOf x1 b f k).toNat) := by
  pointwise [val_main_v5, val_main_v4, val_main_v3, val_main_v2, val_main_v1, val_main_v0, val_main_c]
  have h : (facOf x1 b f k).toNat < 128 := hy b f k
  show facOf x1 b f k + BitVec.ofNat 32 b * 128#32 = _
  apply BitVec.eq_of_toNat_eq
  simp only [BitVec.toNat_add, BitVec.toNat_mul, BitVec.toNat_ofNat]
  omega

/-- The start indices are those row numbers: none is negative, so none is wrapped. -/
theorem start_at (x1 : Vec Ideal S2x128x4 .i32) (hy : InRange (facOf x1)) (b : Fin 2) (f : Fin 128) (k : Fin 4) :
    val_main_call0_v5 (F := Ideal) x1 (ix4 b f k 0) = BitVec.ofNat 32 (128 * b + (facOf x1 b f k).toNat) := by
  have h : (facOf x1 b f k).toNat < 128 := hy b f k
  pointwise [val_main_call0_v5, val_main_call0_v4, val_main_call0_v1, val_main_call0_v0, val_main_call0_c, v5_at x1 hy]
  have hn : 128 * (b : ℕ) + (facOf x1 b f k).toNat < 256 := by have := b.isLt; omega
  rw [(small_word _ hn).2.2]
  rfl

/-- The reference's row at that number is the facet's vertex. -/
theorem row_at (x0 : Vec Ideal S2x128x3 .f32) (x1 : Vec Ideal S2x128x4 .i32) (hy : InRange (facOf x1)) (b : Fin 2)
    (f : Fin 128) (k : Fin 4) (j : Fin 3) :
    val_main_v6 (F := Ideal) x0 (ix2 ⟨128 * b + (facOf x1 b f k).toNat, by have := hy b f k; omega⟩ j)
      = vtx (vertOf x0) (facOf x1) b f k j := by
  have h : (facOf x1 b f k).toNat < 128 := hy b f k
  have hb := b.isLt
  pointwise [val_main_v6]
  unfold vtx vertOf
  congr 2
  · exact Fin.ext (by show (128 * (b : ℕ) + (facOf x1 b f k).toNat) / 128 = b; omega)
  · exact Fin.ext (by show (128 * (b : ℕ) + (facOf x1 b f k).toNat) % 128 = (facOf x1 b f k).toNat % 128; omega)

/-- The reference's gathered vertices are the facets' vertices: no row is out of bounds, so none is filled. -/
theorem vertices_at (x0 : Vec Ideal S2x128x3 .f32) (x1 : Vec Ideal S2x128x4 .i32) (hy : InRange (facOf x1)) (b : Fin 2) (f : Fin 128) (k : Fin 4) (j : Fin 3) :
    val_main_v7 (F := Ideal) x0 x1 (ix4 b f k j) = vtx (vertOf x0) (facOf x1) b f k j := by
  have h : (facOf x1 b f k).toNat < 128 := hy b f k
  have hb := b.isLt
  have e := gather_at (val_main_v6 (F := Ideal) x0) (val_main_call0_v5 (F := Ideal) x1) b f k j
    ⟨128 * b + (facOf x1 b f k).toNat, by omega⟩ (start_at x1 hy b f k)
  have e' := row_at x0 x1 hy b f k j
  pointwise [val_main_v7, val_main_call0_v14, val_main_call0_v12, val_main_call0_v11, val_main_call0_v7,
    val_main_call0_v10, val_main_call0_c_3, val_main_call0_v6, val_main_call0_c_2, val_main_call0_v9,
    val_main_call0_v8, val_main_call0_c_1, val_main_call0_v13]
  have hn : 128 * (b : ℕ) + (facOf x1 b f k).toNat < 256 := by omega
  rw [(fold_all _ _).2 fun x _ => ?_]
  · exact e.trans e'
  · obtain rfl : x = 0 := Subsingleton.elim _ _
    rw [start_at x1 hy, (small_word _ hn).1, (small_word _ hn).2.1]
    rfl

end Cert.Vox.Ref
-- ==== Proof.Bary.lean ====
/- The reference's barycentric coordinates, read at an index. -/
module

public import proofs.«01_k».proof.Proof.Gather
public import proofs.«01_k».proof.Proof.Consts
public import Idealize.ShloMosaic.Lib.Routing.OpsOrder

@[expose] public section

set_option maxRecDepth 16384

noncomputable section

namespace Cert.Vox.Ref

open Idealize.ShloMosaic Idealize.ShloMosaic.Tactic Cert.ReferenceIdeal Cert.ReferenceIdeal.Read

variable (x0 : Vec Ideal S2x128x3 .f32) (x1 : Vec Ideal S2x128x4 .i32)

/-- The reference's fourth vertex. -/
theorem v9_at (hy : InRange (facOf x1)) (b : Fin 2) (f : Fin 128) (j : Fin 3) :
    val_main_v9 (F := Ideal) x0 x1 (ix3 b f j) = vtx (vertOf x0) (facOf x1) b f 3 j := by
  pointwise [val_main_v9, val_main_v8, vertices_at x0 x1 hy]

/-- The reference's edge matrix, which it keeps transposed. -/
theorem v13_at (hy : InRange (facOf x1)) (b : Fin 2) (f : Fin 128) (i j : Fin 3) :
    val_main_v13 (F := Ideal) x0 x1 (ix4 b f i j) = edge (vtx (vertOf x0) (facOf x1) b f) j i := by
  pointwise [val_main_v13, val_main_v10, val_main_v11, val_main_v12, vertices_at x0 x1 hy, v9_at x0 x1 hy]
  rfl

/-- The reference's determinant. -/
theorem v72_at (hy : InRange (facOf x1)) (b : Fin 2) (f : Fin 128) :
    val_main_v72 (F := Ideal) x0 x1 (ix2 b f) = det (edge (vtx (vertOf x0) (facOf x1) b f)) := by
  pointwise [val_main_v72, val_main_v71, val_main_v70, val_main_v69, val_main_v68, val_main_v67, val_main_v66, val_main_v65, val_main_v64,
    val_main_v63, val_main_v62, val_main_v61, val_main_v60, val_main_v59, val_main_v31, val_main_v30, val_main_v29, val_main_v28,
    val_main_v27, val_main_v26, val_main_v25, val_main_v24, val_main_v23, val_main_v22, val_main_v21, val_main_v20, val_main_v19,
    val_main_v18, val_main_v17, val_main_v16, val_main_v15, val_main_v14, v13_at x0 x1 hy]
  rfl

/-- The reference's scaled inverse. -/
theorem v88_at (hy : InRange (facOf x1)) (b : Fin 2) (f : Fin 128) (i j : Fin 3) :
    val_main_v88 (F := Ideal) x0 x1 (ix4 b f i j) = adj (edge (vtx (vertOf x0) (facOf x1) b f)) i j := by
  pointwise [val_main_v88, val_main_v87, val_main_v86, val_main_v85, val_main_v84, val_main_v83, val_main_v82, val_main_v81,
    val_main_v80, val_main_v79, val_main_v78, val_main_v77, val_main_v76, val_main_v75, val_main_v74, val_main_v73,
    val_main_v58, val_main_v57, val_main_v56, val_main_v55, val_main_v54, val_main_v53, val_main_v52, val_main_v51, val_main_v50,
    val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32,
    val_main_v31, val_main_v30, val_main_v29, val_main_v28,
    val_main_v27, val_main_v26, val_main_v25, val_main_v24, val_main_v23, val_main_v22, val_main_v21, val_main_v20, val_main_v19,
    val_main_v18, val_main_v17, val_main_v16, val_main_v15, val_main_v14, v13_at x0 x1 hy]
  fin_cases i <;> fin_cases j <;> rfl

/-- The reference's coordinate of the centre of voxel `n` on an axis. -/
theorem axis_at (n : ℕ) (hn : n < 32) :
    Ideal.div (Ideal.ofBits .f32 0x40000000#32 * FloatOps.sitofp (F := Ideal) .f32 (BitVec.ofNat 32 n) + 1
      - Ideal.ofBits .f32 0x42000000#32) (Ideal.ofBits .f32 0x42000000#32) = centre ⟨n, hn⟩ := by
  have hs : FloatOps.sitofp (F := Ideal) .f32 (BitVec.ofNat 32 n) = (((n : ℕ) : ℝ) : EReal) := by
    show (((BitVec.ofNat 32 n).toInt : ℝ) : EReal) = _
    have h : ((BitVec.ofNat 32 n).toInt : ℤ) = n := by rw [BitVec.toInt_ofNat', Int.bmod_def]; split <;> omega
    rw [h]; norm_cast
  rw [hs, word_two, word_thirtytwo]
  unfold Ideal.div
  have h32 : ((32 : ℝ) : EReal) ≠ 0 := by
    intro h; exact absurd (EReal.coe_eq_zero.1 h) (by norm_num)
  rw [if_neg h32]
  unfold centre
  rw [← EReal.coe_inv, ← EReal.coe_one, ← EReal.coe_mul, ← EReal.coe_add, ← EReal.coe_sub, ← EReal.coe_mul]
  congr 1

/-- The reference's voxel centres. -/
theorem v123_at (v : Fin 32768) (j : Fin 3) : val_main_v123 (F := Ideal) (ix2 v j) = voxelCentre v j := by
  pointwise [val_main_v123, val_main_v122, val_main_v121, val_main_v120, val_main_v119, val_main_v118, val_main_v117,
    val_main_v116, val_main_v115, val_main_v114, val_main_v113, val_main_v112, val_main_v111, val_main_v110, val_main_v109,
    val_main_v108, val_main_v107, val_main_v106, val_main_v105, val_main_v104, val_main_v103, val_main_v102, val_main_v101,
    val_main_v100, val_main_v99, val_main_v98, val_main_v97, val_main_v96, val_main_v95, val_main_v94, val_main_v93,
    val_main_v92, val_main_v91, val_main_v90, val_main_v89, val_main_cst, val_main_cst_0, val_main_cst_1, val_main_cst_2,
    val_main_cst_3, val_main_cst_4, val_main_cst_5, val_main_cst_6, val_main_cst_7, val_main_cst_8, val_main_cst_9,
    val_main_cst_10]
  fin_cases j
  · exact axis_at _ _
  · exact axis_at _ _
  · exact axis_at _ _

/-- The reference's numerators. -/
theorem v129_at (hy : InRange (facOf x1)) (b : Fin 2) (f : Fin 128) (v : Fin 32768) (i : Fin 3) :
    val_main_v129 (F := Ideal) x0 x1 (ix4 b f v i) = num (vtx (vertOf x0) (facOf x1) b f) (voxelCentre v) i := by
  pointwise [val_main_v129, val_main_v128, val_main_v127, val_main_v126, val_main_v125, val_main_v124, v123_at,
    v9_at x0 x1 hy, v88_at x0 x1 hy]
  exact Finset.sum_congr rfl fun j _ => mul_comm _ _

/-- The reference's quotients. -/
theorem v132_at (hy : InRange (facOf x1)) (b : Fin 2) (f : Fin 128) (v : Fin 32768) (i : Fin 3) :
    val_main_v132 (F := Ideal) x0 x1 (ix4 b f v i) = Ideal.div (num (vtx (vertOf x0) (facOf x1) b f) (voxelCentre v) i)
      (det (edge (vtx (vertOf x0) (facOf x1) b f))) := by
  pointwise [val_main_v132, val_main_v131, val_main_v130, v129_at x0 x1 hy, v72_at x0 x1 hy]

/-- The two comparisons of a coordinate with zero and one, as bits. -/
theorem between_bits {y : EReal} (h : IntOp.andi (BitVec.ofBool (decide (0 ≤ y))) (BitVec.ofBool (decide (y ≤ 1))) = 1#1) :
    0 ≤ y ∧ y ≤ 1 := by
  by_cases h1 : 0 ≤ y <;> by_cases h2 : y ≤ 1 <;> simp_all [IntOp.andi]

/-- The converse of `between_bits`. -/
theorem bits_between {y : EReal} (h : 0 ≤ y ∧ y ≤ 1) :
    IntOp.andi (BitVec.ofBool (decide (0 ≤ y))) (BitVec.ofBool (decide (y ≤ 1))) = 1#1 := by
  rw [decide_eq_true h.1, decide_eq_true h.2]; rfl

open Classical in
/-- The reference's result before the last reshape: one exactly where some facet's coordinates all lie in range. -/
theorem v145_at (hy : InRange (facOf x1)) (b : Fin 2) (v : Fin 32768) :
    val_main_v145 (F := Ideal) x0 x1 (ix2 b v)
      = if ∃ f, Inside (num (vtx (vertOf x0) (facOf x1) b f) (voxelCentre v)) (det (edge (vtx (vertOf x0) (facOf x1) b f)))
        then 1 else 0 := by
  pointwise [val_main_v145, val_main_v144, val_main_v143, val_main_v142, val_main_v141, val_main_v140, val_main_v139,
    val_main_v138, val_main_v137, val_main_v136, val_main_v135, val_main_v134, val_main_v133, val_main_cst_11,
    val_main_cst_12, val_main_cst_13, val_main_cst_14, val_main_c_15, val_main_c_16, v132_at x0 x1 hy]
  generalize hw : Finset.fold IntOp.ori (0#1) _ (Finset.univ : Finset (Fin 128)) = w
  have hiff : w = 1#1 ↔ ∃ f, Inside (num (vtx (vertOf x0) (facOf x1) b f) (voxelCentre v))
      (det (edge (vtx (vertOf x0) (facOf x1) b f))) := by
    rw [← hw, Routing.fold_ori]
    refine ⟨fun ⟨f, _, h⟩ => ⟨f, ?_⟩, fun ⟨f, h⟩ => ⟨f, Finset.mem_univ _, ?_⟩⟩
    · rw [fold_all] at h
      have h' := fun k => between_bits (h k (Finset.mem_univ k))
      exact ⟨fun i => by fin_cases i; exacts [h' 0, h' 1, h' 2], h' 3⟩
    · rw [fold_all]
      intro k _
      refine bits_between ?_
      fin_cases k
      exacts [h.1 0, h.1 1, h.1 2, h.2]
  rcases BitVec.eq_zero_or_eq_one w with rfl | rfl
  · rw [if_neg fun h => absurd (hiff.2 h) (by decide)]
    show ((((0#1 : BitVec 1).toNat : ℕ) : ℝ) : EReal) = 0
    simp
  · rw [if_pos (hiff.1 rfl)]
    show ((((1#1 : BitVec 1).toNat : ℕ) : ℝ) : EReal) = 1
    simp

end Cert.Vox.Ref
-- ==== Proof.Pre.lean ====
/- What the precondition says: every vertex index is in range, and no facet is degenerate at a voxel centre with all
three numerators zero. -/
module

public import proofs.«01_k».proof.Proof.Bary
public import proofs.«01_k».proof.Proof.Gen.Pre_facets_proper

@[expose] public section

set_option maxRecDepth 16384

noncomputable section

namespace Cert.Vox.Pre

open Idealize.ShloMosaic Idealize.ShloMosaic.Tactic Cert.Pre_facets_proper Cert.Pre_facets_proper.Gen

variable (x0 : Vec Ideal S2x128x3 .f32) (x1 : Vec Ideal S2x128x4 .i32)

/-- The precondition's range test. -/
def inRange : IVec S_ 1 :=
  Host.reduce IntOp.andi (andi (cmpi .sge x1 (broadcastInDim S2x128x4 ![] bcast_S_S2x128x4 (constantI S_ 32 0#32)))
    (cmpi .slt x1 (broadcastInDim S2x128x4 ![] bcast_S_S2x128x4 (constantI S_ 32 128#32)))) (constantI S_ 1 1#1)
    reducesTo_S2x128x4_S_d0_1_2 h_S_

/-- The row numbers that the precondition gathers at. -/
def rows : IVec S2x128x4x1 32 :=
  broadcastInDim S2x128x4x1 ![0, 1, 2] bcast_S2x128x4_S2x128x4x1_0_1_2
    (addi x1 (broadcastInDim S2x128x4 ![0, 1, 2] bcast_S2x1x1_S2x128x4_0_1_2
      (broadcastInDim S2x1x1 ![0] bcast_S2_S2x1x1_0
        (muli (iotaInDim S2 32 0) (broadcastInDim S2 ![] bcast_S_S2 (constantI S_ 32 128#32))))))

/-- The precondition's gathered vertices. -/
def verts : FVec Ideal S2x128x4x3 .f32 :=
  Host.gather gather_S256x3_S2x128x4x1_S2x128x4x3_3_0_n_n_0_3_13
    (shapeCast S256x3 x0 shapeCasts_S2x128x3_S256x3) (rows x1)

/-- Everything after the gather, from the range test's bit and the gathered vertices. -/
def rest (r : IVec S_ 1) (G : FVec Ideal S2x128x4x3 .f32) : IVec S_ 1 :=
  fn_part1 (F := Ideal) r
    (shapeCast S2x128x3 (extractStridedSlice S2x128x1x3 ![0, 0, 3, 0] G slices_S2x128x4x3_S2x128x1x3_0_0_3_0)
      shapeCasts_S2x128x1x3_S2x128x3)
    (extractStridedSlice S2x128x3x3 ![0, 0, 0, 0] G slices_S2x128x4x3_S2x128x3x3_0_0_0_0)
    (broadcastInDim S2x128x3x3 ![0, 1, 2, 3] bcast_S2x128x1x3_S2x128x3x3_0_1_2_3
      (broadcastInDim S2x128x1x3 ![0, 1, 3] bcast_S2x128x3_S2x128x1x3_0_1_3
        (shapeCast S2x128x3 (extractStridedSlice S2x128x1x3 ![0, 0, 3, 0] G slices_S2x128x4x3_S2x128x1x3_0_0_3_0)
          shapeCasts_S2x128x1x3_S2x128x3)))

/-- The precondition is its gather, then the rest. -/
theorem fn_eq : fn (F := Ideal) x0 x1 = rest (inRange x1) (verts x0 x1) := rfl

/-- The test of every facet at every voxel centre: a non-zero determinant, or some non-zero numerator. -/
def proper (D : FVec Ideal S2x128 .f32) (N : FVec Ideal S2x128x32768x3 .f32) : IVec S_ 1 :=
  Host.reduce IntOp.andi
    (ori (broadcastInDim S2x128x32768 ![0, 1, 2] bcast_S2x128x1_S2x128x32768_0_1_2
        (broadcastInDim S2x128x1 ![0, 1] bcast_S2x128_S2x128x1_0_1
          (cmpf .une D (broadcastInDim S2x128 ![] bcast_S_S2x128 (constant S_ .f32 0x00000000#32)))))
      (Host.reduce IntOp.ori
        (cmpf .une N (broadcastInDim S2x128x32768x3 ![] bcast_S_S2x128x32768x3 (constant S_ .f32 0x00000000#32)))
        (constantI S_ 1 0#1) reducesTo_S2x128x32768x3_S2x128x32768_d3 h_S_))
    (constantI S_ 1 1#1) reducesTo_S2x128x32768_S_d0_1_2 h_S_

/-- At the reference's gathered vertices, the tests are on the reference's determinants and numerators. -/
theorem rest_eq (r : IVec S_ 1) : rest r (Cert.ReferenceIdeal.Read.val_main_v7 (F := Ideal) x0 x1)
    = andi r (proper (Cert.ReferenceIdeal.Read.val_main_v72 (F := Ideal) x0 x1) (Cert.ReferenceIdeal.Read.val_main_v129 (F := Ideal) x0 x1)) := rfl

/-- Where the whole test holds, the range test does. -/
theorem rest_one (r : IVec S_ 1) (G : FVec Ideal S2x128x4x3 .f32) (h : rest r G ix0 = 1#1) : r ix0 = 1#1 := by
  unfold rest fn_part1 fn_part2 fn_part3 fn_part4 fn_part5 fn_part6 at h
  exact (IntOp.andi_eq_one.1 h).1

/-- The range test says that every vertex index is in range. -/
theorem inRange_of_one (h : inRange x1 ix0 = 1#1) : InRange (facOf x1) := fun b f k => by
  have e := IntOp.andi_eq_one.1 (Host.reduce_andi_all _ _ _ _ _ h (ix3 b f k))
  have e1 : BitVec.ofBool ((0#32 : BitVec 32).sle (facOf x1 b f k)) = 1#1 := e.1
  have e2 : BitVec.ofBool ((facOf x1 b f k).slt 128#32) = 1#1 := e.2
  rw [BitVec.sle_eq_decide] at e1
  rw [BitVec.slt_eq_decide] at e2
  have h0 : ((0#32 : BitVec 32).toInt : ℤ) = 0 := by decide
  have h128 : ((128#32 : BitVec 32).toInt : ℤ) = 128 := by decide
  have f1 : (0 : ℤ) ≤ (facOf x1 b f k).toInt := by
    by_contra hc; rw [h0, decide_eq_false hc] at e1; exact absurd e1 (by decide)
  have f2 : (facOf x1 b f k).toInt < 128 := by
    by_contra hc; rw [h128, decide_eq_false hc] at e2; exact absurd e2 (by decide)
  rw [BitVec.toInt_eq_toNat_cond] at f1 f2
  split at f1 <;> omega

/-- For indices in range the precondition gathers what the reference does. -/
theorem verts_eq (hy : InRange (facOf x1)) : verts x0 x1 = Cert.ReferenceIdeal.Read.val_main_v7 (F := Ideal) x0 x1 := by
  funext i
  idx_vars i
  have h : (facOf x1 i0 i1 i2).toNat < 128 := hy i0 i1 i2
  have hr : rows x1 (ix4 i0 i1 i2 0) = BitVec.ofNat 32 (128 * i0 + (facOf x1 i0 i1 i2).toNat) :=
    (show rows x1 (ix4 i0 i1 i2 0) = Cert.ReferenceIdeal.Read.val_main_v5 (F := Ideal) x1 (ix3 i0 i1 i2) by
      pointwise [rows, Cert.ReferenceIdeal.Read.val_main_v5, Cert.ReferenceIdeal.Read.val_main_v4,
        Cert.ReferenceIdeal.Read.val_main_v3, Cert.ReferenceIdeal.Read.val_main_v2, Cert.ReferenceIdeal.Read.val_main_v1,
        Cert.ReferenceIdeal.Read.val_main_v0, Cert.ReferenceIdeal.Read.val_main_c]).trans (Ref.v5_at x1 hy i0 i1 i2)
  refine Eq.trans ?_ (Ref.vertices_at x0 x1 hy i0 i1 i2 i3).symm
  exact (Ref.gather_at _ (rows x1) i0 i1 i2 i3 ⟨128 * i0 + (facOf x1 i0 i1 i2).toNat, by omega⟩ hr).trans
    (Ref.row_at x0 x1 hy i0 i1 i2 i3)

/-- The last test says that where a facet's determinant is zero, some numerator is not. -/
theorem proper_of_one (D : FVec Ideal S2x128 .f32) (N : FVec Ideal S2x128x32768x3 .f32) (h : proper D N ix0 = 1#1)
    (b : Fin 2) (f : Fin 128) (v : Fin 32768) : D (ix2 b f) ≠ 0 ∨ ∃ i : Fin 3, N (ix4 b f v i) ≠ 0 := by
  have e := Host.reduce_andi_all _ _ _ _ _ h (ix3 b f v)
  revert e
  pointwise []
  intro e
  by_cases hD : D (ix2 b f) = 0
  · right
    by_contra hN
    push Not at hN
    have key : ∀ w : BitVec 1, IntOp.ori (BitVec.ofBool false) w = 1#1 → w = 1#1 := by decide
    rw [decide_eq_false (not_not.2 hD)] at e
    obtain ⟨i, -, hi⟩ := (Routing.fold_ori _ _).1 (key _ e)
    have key' : ∀ w : Bool, BitVec.ofBool w = 1#1 → w = true := by decide
    exact of_decide_eq_true (key' _ hi) (hN i)
  · exact Or.inl hD

/-- The precondition, read: every index is in range, and where a facet's determinant is zero, some numerator at the
voxel centre is not. -/
theorem read (h : fn (F := Ideal) x0 x1 = fun _ => 1#1) : InRange (facOf x1) ∧ ∀ b f (v : Fin 32768),
    det (edge (vtx (vertOf x0) (facOf x1) b f)) ≠ 0 ∨ ∃ i, num (vtx (vertOf x0) (facOf x1) b f) (voxelCentre v) i ≠ 0 := by
  have h0 : rest (inRange x1) (verts x0 x1) ix0 = 1#1 := (congrFun (fn_eq x0 x1) ix0).symm.trans (congrFun h ix0)
  have hy := inRange_of_one x1 (rest_one _ _ h0)
  refine ⟨hy, fun b f v => ?_⟩
  rw [verts_eq x0 x1 hy, rest_eq] at h0
  have h1 := proper_of_one _ _ (IntOp.andi_eq_one.1 h0).2 b f v
  rw [← Ref.v72_at x0 x1 hy b f]
  refine h1.imp id fun ⟨i, hi⟩ => ⟨i, ?_⟩
  rw [← Ref.v129_at x0 x1 hy b f v i]
  exact hi

end Cert.Vox.Pre
-- ==== Proof.Equal.lean ====
/- The idealized kernel and the idealized reference end with the same result. -/
module

public import proofs.«01_k».proof.Defs
public import proofs.«01_k».proof.Proof.Pre
public import proofs.«01_k».proof.Proof.Gen.ReferenceIdeal.Run

@[expose] public section

set_option maxRecDepth 16384

noncomputable section

namespace Cert.Proof

open Idealize.ShloMosaic Idealize.ShloMosaic.TcCoe Idealize.SL.Sem Cert.Vox

/-- The reference's result before its last reshape is the occupancy, where the precondition holds. -/
theorem reference_value (x0 : Vec Ideal Cert.ReferenceIdeal.S2x128x3 .f32) (x1 : Vec Ideal Cert.ReferenceIdeal.S2x128x4 .i32)
    (h : Cert.Pre_facets_proper.fn (F := Ideal) x0 x1 = fun _ => 1#1) (b : Fin 2) (v : Fin 32768) :
    Cert.ReferenceIdeal.Read.val_main_v145 (F := Ideal) x0 x1 (ix2 b v) = occ (vertOf x0) (facOf x1) b (voxelCentre v) := by
  obtain ⟨hy, hp⟩ := Cert.Vox.Pre.read x0 x1 h
  rw [Ref.v145_at x0 x1 hy]
  unfold occ Covers
  have e : (∃ f, Inside (num (vtx (vertOf x0) (facOf x1) b f) (voxelCentre v)) (det (edge (vtx (vertOf x0) (facOf x1) b f))))
      = ∃ f, InsideMin (num (vtx (vertOf x0) (facOf x1) b f) (voxelCentre v)) (det (edge (vtx (vertOf x0) (facOf x1) b f))) :=
    congrArg _ (funext fun f => propext (insideMin_iff_inside _ _ (hp b f v)).symm)
  by_cases hh : ∃ f, Inside (num (vtx (vertOf x0) (facOf x1) b f) (voxelCentre v))
      (det (edge (vtx (vertOf x0) (facOf x1) b f)))
  · rw [if_pos hh]
    exact (if_pos (e.mp hh)).symm
  · rw [if_neg hh]
    exact (if_neg fun h' => hh (e.mpr h')).symm

/-- The idealized kernel's result is the idealized reference's, element for element, from every memory that satisfies
the precondition. -/
theorem equal : Cert.algebraic_KernelIdeal_ReferenceIdeal_pre_facets_proper := by
  intro m g m' g' hpre hargs
  refine ⟨_, kernel_run m g, (θ_run _ _ _).mono (fun r h c => ?_) (Cert.ReferenceIdeal.Value.run m' g')⟩
  obtain ⟨h0, h1, h2⟩ := h c
  refine ⟨h0.trans ?_, h1, h2⟩
  refine (Cert.ReferenceIdeal.Read.val_main_v146_eq _).trans ?_
  have e0 := (hargs c).1
  have e1 := (hargs c).2
  have hc := hpre c
  have e : Cert.ReferenceIdeal.Read.val_main_v145 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      = (show Vec Ideal Cert.KernelIdeal.S2x32768 .f32 from Cert.KernelIdeal.Gen.outsAt0 m c Cert.KernelIdeal.Gen.t0_0) := by
    funext i
    obtain ⟨b, v, rfl⟩ : ∃ (b : Fin 2) (v : Fin 32768), i = ix2 b v := ⟨i 0, i 1, by funext a; fin_cases a <;> rfl⟩
    exact (reference_value _ _ hc b v).trans (kernel_value m c (Cert.Vox.Pre.read _ _ hc).1 b v).symm
  show shapeCast _ (Cert.ReferenceIdeal.Read.val_main_v145 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))) _ = _
  rw [e0, e1, e]

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_facets_proper
public import proofs.«01_k».proof.Proof.Frames
public import proofs.«01_k».proof.Proof.Equal
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Pre_facets_proper.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    equal⟩

end Cert.Proof

end
